-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x128x65x1024 : Shape := ⟨4, ![8, 128, 65, 1024]⟩
abbrev S8x64 : Shape := ⟨2, ![8, 64]⟩
abbrev S8 : Shape := ⟨1, ![8]⟩
abbrev S_ : Shape := ⟨0, ![]⟩

class Facts : Prop where
  bcast_S_S8x64 : S_.BroadcastsInDim S8x64 (![] : Fin 0 → Fin S8x64.rank)
  reducesTo_S8x64_S_d0_1 : S8x64.ReducesTo [0, 1] S_
  h_S_ : 0 < S_.numel
  bcast_S_S8 : S_.BroadcastsInDim S8 (![] : Fin 0 → Fin S8.rank)
  reducesTo_S8_S_d0 : S8.ReducesTo [0] S_

variable [Facts]

def fn_part1 {F : FTy → Type} [FloatOps F] (main_arg3 : IVec S8 32) (main_v12 : IVec S_ 1) (main_v14 : IVec S8 1) (main_v15 : IVec S8 32) : IVec S_ 1 :=
  let main_v16 : IVec S8 1 := cmpi .sle main_arg3 main_v15
  let main_v17 : IVec S8 1 := andi main_v14 main_v16
  let main_c_7 : IVec S_ 1 := constantI S_ 1 1#1
  let main_v18 : IVec S_ 1 := (fun x v => Host.reduce IntOp.andi x v reducesTo_S8_S_d0 h_S_) main_v17 main_c_7
  let main_v19 : IVec S_ 1 := andi main_v12 main_v18
  main_v19

def fn {F : FTy → Type} [FloatOps F] (main_arg0 : FVec F S8x128x65x1024 .f32) (main_arg1 : IVec S8x64 32) (main_arg2 : IVec S8 32) (main_arg3 : IVec S8 32) : IVec S_ 1 :=
  let main_c : IVec S_ 32 := constantI S_ 32 1#32
  let main_v0 : IVec S8x64 32 := broadcastInDim S8x64 ![] bcast_S_S8x64 main_c
  let main_v1 : IVec S8x64 1 := cmpi .sge main_arg1 main_v0
  let main_c_0 : IVec S_ 32 := constantI S_ 32 1024#32
  let main_v2 : IVec S8x64 32 := broadcastInDim S8x64 ![] bcast_S_S8x64 main_c_0
  let main_v3 : IVec S8x64 1 := cmpi .slt main_arg1 main_v2
  let main_v4 : IVec S8x64 1 := andi main_v1 main_v3
  let main_c_1 : IVec S_ 1 := constantI S_ 1 1#1
  let main_v5 : IVec S_ 1 := (fun x v => Host.reduce IntOp.andi x v reducesTo_S8x64_S_d0_1 h_S_) main_v4 main_c_1
  let main_c_2 : IVec S_ 32 := constantI S_ 32 64#32
  let main_v6 : IVec S8 32 := broadcastInDim S8 ![] bcast_S_S8 main_c_2
  let main_v7 : IVec S8 1 := cmpi .sge main_arg2 main_v6
  let main_c_3 : IVec S_ 32 := constantI S_ 32 128#32
  let main_v8 : IVec S8 32 := broadcastInDim S8 ![] bcast_S_S8 main_c_3
  let main_v9 : IVec S8 1 := cmpi .sle main_arg2 main_v8
  let main_v10 : IVec S8 1 := andi main_v7 main_v9
  let main_c_4 : IVec S_ 1 := constantI S_ 1 1#1
  let main_v11 : IVec S_ 1 := (fun x v => Host.reduce IntOp.andi x v reducesTo_S8_S_d0 h_S_) main_v10 main_c_4
  let main_v12 : IVec S_ 1 := andi main_v5 main_v11
  let main_c_5 : IVec S_ 32 := constantI S_ 32 32#32
  let main_v13 : IVec S8 32 := broadcastInDim S8 ![] bcast_S_S8 main_c_5
  let main_v14 : IVec S8 1 := cmpi .sge main_arg3 main_v13
  let main_c_6 : IVec S_ 32 := constantI S_ 32 64#32
  let main_v15 : IVec S8 32 := broadcastInDim S8 ![] bcast_S_S8 main_c_6
  fn_part1 (F := F) main_arg3 main_v12 main_v14 main_v15
-- ==== Kernel.lean ====
abbrev S8x128x65x1024 : Shape := ⟨4, ![8, 128, 65, 1024]⟩
abbrev S8x64 : Shape := ⟨2, ![8, 64]⟩
abbrev S8 : Shape := ⟨1, ![8]⟩
abbrev S8x64x1 : Shape := ⟨3, ![8, 64, 1]⟩
abbrev S128x8x1x65 : Shape := ⟨4, ![128, 8, 1, 65]⟩
abbrev S128x8x1x64 : Shape := ⟨4, ![128, 8, 1, 64]⟩
abbrev S1x64x65x1024 : Shape := ⟨4, ![1, 64, 65, 1024]⟩
abbrev S1x64x1 : Shape := ⟨3, ![1, 64, 1]⟩
abbrev S64x1x1x65 : Shape := ⟨4, ![64, 1, 1, 65]⟩
abbrev S64x1x1x64 : Shape := ⟨4, ![64, 1, 1, 64]⟩
abbrev S64x65x1024 : Shape := ⟨3, ![64, 65, 1024]⟩
abbrev S64x65 : Shape := ⟨2, ![64, 65]⟩
abbrev S64x65x1 : Shape := ⟨3, ![64, 65, 1]⟩
abbrev S64x1 : Shape := ⟨2, ![64, 1]⟩
abbrev S64x1024 : Shape := ⟨2, ![64, 1024]⟩
abbrev S64x64x1024 : Shape := ⟨3, ![64, 64, 1024]⟩
abbrev S1x64x1024 : Shape := ⟨3, ![1, 64, 1024]⟩
abbrev S64x64 : Shape := ⟨2, ![64, 64]⟩
abbrev S8x1 : Shape := ⟨2, ![8, 1]⟩
abbrev S1x1 : Shape := ⟨2, ![1, 1]⟩
abbrev S192x8x65 : Shape := ⟨3, ![192, 8, 65]⟩
abbrev S192x65x8 : Shape := ⟨3, ![192, 65, 8]⟩
abbrev S1x8x65 : Shape := ⟨3, ![1, 8, 65]⟩
abbrev S64x8x65 : Shape := ⟨3, ![64, 8, 65]⟩
abbrev S128x8x65 : Shape := ⟨3, ![128, 8, 65]⟩
abbrev S191x8x65 : Shape := ⟨3, ![191, 8, 65]⟩
abbrev S2x8x65 : Shape := ⟨3, ![2, 8, 65]⟩
abbrev S190x8x65 : Shape := ⟨3, ![190, 8, 65]⟩
abbrev S4x8x65 : Shape := ⟨3, ![4, 8, 65]⟩
abbrev S188x8x65 : Shape := ⟨3, ![188, 8, 65]⟩
abbrev S8x8x65 : Shape := ⟨3, ![8, 8, 65]⟩
abbrev S184x8x65 : Shape := ⟨3, ![184, 8, 65]⟩
abbrev S16x8x65 : Shape := ⟨3, ![16, 8, 65]⟩
abbrev S176x8x65 : Shape := ⟨3, ![176, 8, 65]⟩
abbrev S32x8x65 : Shape := ⟨3, ![32, 8, 65]⟩
abbrev S160x8x65 : Shape := ⟨3, ![160, 8, 65]⟩
abbrev S128x8x1 : Shape := ⟨3, ![128, 8, 1]⟩
abbrev S128x8x64 : Shape := ⟨3, ![128, 8, 64]⟩
abbrev S65x8 : Shape := ⟨2, ![65, 8]⟩
abbrev S1x8 : Shape := ⟨2, ![1, 8]⟩
abbrev S1x65x8 : Shape := ⟨3, ![1, 65, 8]⟩
abbrev S64x8 : Shape := ⟨2, ![64, 8]⟩
abbrev S1 : Shape := ⟨1, ![1]⟩

abbrev nBuf : Space → Nat
  | .hbm => 11
  | .vmem => 18
  | .smem => 0
  | _ => 0

abbrev bufTy : (tb : Table) → Fin (tcTables nBuf tb) → BufTy
  | .hbm, ⟨0, _⟩ => ⟨S8x128x65x1024, .f32⟩
  | .hbm, ⟨1, _⟩ => ⟨S8x64, .i32⟩
  | .hbm, ⟨2, _⟩ => ⟨S8, .i32⟩
  | .hbm, ⟨3, _⟩ => ⟨S8, .i32⟩
  | .hbm, ⟨4, _⟩ => ⟨S8x64x1, .i32⟩
  | .hbm, ⟨5, _⟩ => ⟨S128x8x1x65, .f32⟩
  | .hbm, ⟨6, _⟩ => ⟨S128x8x1x64, .f32⟩
  | .hbm, ⟨7, _⟩ => ⟨S8x1, .i32⟩
  | .hbm, ⟨8, _⟩ => ⟨S8x1, .i32⟩
  | .hbm, ⟨9, _⟩ => ⟨S1x1, .f32⟩
  | .hbm, ⟨10, _⟩ => ⟨S1, .f32⟩
  | .local _ .vmem, ⟨0, _⟩ => ⟨S1x64x65x1024, .f32⟩
  | .local _ .vmem, ⟨1, _⟩ => ⟨S1x64x65x1024, .f32⟩
  | .local _ .vmem, ⟨2, _⟩ => ⟨S1x64x1, .i32⟩
  | .local _ .vmem, ⟨3, _⟩ => ⟨S1x64x1, .i32⟩
  | .local _ .vmem, ⟨4, _⟩ => ⟨S64x1x1x65, .f32⟩
  | .local _ .vmem, ⟨5, _⟩ => ⟨S64x1x1x65, .f32⟩
  | .local _ .vmem, ⟨6, _⟩ => ⟨S64x1x1x64, .f32⟩
  | .local _ .vmem, ⟨7, _⟩ => ⟨S64x1x1x64, .f32⟩
  | .local _ .vmem, ⟨8, _⟩ => ⟨S128x8x1x65, .f32⟩
  | .local _ .vmem, ⟨9, _⟩ => ⟨S128x8x1x64, .f32⟩
  | .local _ .vmem, ⟨10, _⟩ => ⟨S8x1, .i32⟩
  | .local _ .vmem, ⟨11, _⟩ => ⟨S8x1, .i32⟩
  | .local _ .vmem, ⟨12, _⟩ => ⟨S1x1, .f32⟩
  | .local _ .vmem, ⟨13, _⟩ => ⟨S192x8x65, .f32⟩
  | .local _ .vmem, ⟨14, _⟩ => ⟨S192x8x65, .f32⟩
  | .local _ .vmem, ⟨15, _⟩ => ⟨S192x8x65, .f32⟩
  | .local _ .vmem, ⟨16, _⟩ => ⟨S192x65x8, .f32⟩
  | .local _ .vmem, ⟨17, _⟩ => ⟨S192x65x8, .f32⟩
  | _, _ => ⟨S8x128x65x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc1_scratch3 : Ref sig .tc := ⟨.vmem, 16, rfl⟩
abbrev cc1_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x64x65x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1x1x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := .none

@[reducible] def k1_t1_loop : Scf.Loop 32 :=
  let c1_i32_156 : BitVec 32 := 1#32
  let c191_i32 : BitVec 32 := 191#32
  let v248 : BitVec 32 := Scalar.addi c1_i32_156 c191_i32
  let c1_i32_157 : BitVec 32 := 1#32
  ⟨c1_i32_156, v248, c1_i32_157⟩
def k1_off1 (k1_t1 : Fin k1_t1_loop.trips) : Fin 3 → Nat :=
  let c1_i32_156 : BitVec 32 := 1#32
  let c1_i32_157 : BitVec 32 := 1#32
  let arg10 : BitVec 32 := Scf.iv c1_i32_156 c1_i32_157 k1_t1
  let c1_i32_166 : BitVec 32 := 1#32
  let v263 : BitVec 32 := Scalar.subi arg10 c1_i32_166
  let v264 : Index := Scalar.indexCast v263
  let c0_167 : Index := 0#32
  let c0_168 : Index := 0#32
  ![v264.toNat, 0, 0]
abbrev stage1_0 : Fin 1 → Memref sig .tc .vmem S128x8x1x65 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x8x1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x128x65x1024 : Shape := ⟨4, ![8, 128, 65, 1024]⟩
abbrev S8x64 : Shape := ⟨2, ![8, 64]⟩
abbrev S8 : Shape := ⟨1, ![8]⟩
abbrev S_ : Shape := ⟨0, ![]⟩
abbrev S8x128x65 : Shape := ⟨3, ![8, 128, 65]⟩
abbrev S8x128x65x1 : Shape := ⟨4, ![8, 128, 65, 1]⟩
abbrev S8x1x64x1 : Shape := ⟨4, ![8, 1, 64, 1]⟩
abbrev S8x128x64x1 : Shape := ⟨4, ![8, 128, 64, 1]⟩
abbrev S8x128x64x1024 : Shape := ⟨4, ![8, 128, 64, 1024]⟩
abbrev S8x128x64x1x1 : Shape := ⟨5, ![8, 128, 64, 1, 1]⟩
abbrev S1 : Shape := ⟨1, ![1]⟩
abbrev S1x1x1x1x1 : Shape := ⟨5, ![1, 1, 1, 1, 1]⟩
abbrev S8x128x64 : Shape := ⟨3, ![8, 128, 64]⟩
abbrev S64 : Shape := ⟨1, ![64]⟩
abbrev S1x64 : Shape := ⟨2, ![1, 64]⟩
abbrev S8x1 : Shape := ⟨2, ![8, 1]⟩
abbrev S8x1x64 : Shape := ⟨3, ![8, 1, 64]⟩
abbrev S8x1x1 : Shape := ⟨3, ![8, 1, 1]⟩
abbrev S8x1x65 : Shape := ⟨3, ![8, 1, 65]⟩
abbrev S8x127x65 : Shape := ⟨3, ![8, 127, 65]⟩
abbrev S8x128x1 : Shape := ⟨3, ![8, 128, 1]⟩
abbrev S8x8320 : Shape := ⟨2, ![8, 8320]⟩
abbrev S8320x8 : Shape := ⟨2, ![8320, 8]⟩
abbrev S65x8 : Shape := ⟨2, ![65, 8]⟩
abbrev S1x8 : Shape := ⟨2, ![1, 8]⟩
abbrev S64x8 : Shape := ⟨2, ![64, 8]⟩
abbrev S128x65x8 : Shape := ⟨3, ![128, 65, 8]⟩
abbrev S8x3 : Shape := ⟨2, ![8, 3]⟩

abbrev nBuf : Space → Nat
  | .hbm => 177
  | .vmem => 0
  | .smem => 0
  | _ => 0

abbrev hbmTy0_0 (i : Nat) : BufTy := match i % 128 with
  | 0 => ⟨S8x128x65x1024, .f32⟩
  | 1 => ⟨S8x64, .i32⟩
  | 2 => ⟨S8, .i32⟩
  | 3 => ⟨S8, .i32⟩
  | 4 => ⟨S_, .f32⟩
  | 5 => ⟨S8x128x65, .f32⟩
  | 6 => ⟨S_, .f32⟩
  | 7 => ⟨S8x128x65, .f32⟩
  | 8 => ⟨S8x128x65, .f32⟩
  | 9 => ⟨S8x128x65x1, .f32⟩
  | 10 => ⟨S8x128x65x1024, .f32⟩
  | 11 => ⟨S8x128x65x1024, .f32⟩
  | 12 => ⟨S8x128x65x1024, .f32⟩
  | 13 => ⟨S_, .f32⟩
  | 14 => ⟨S8x128x65, .f32⟩
  | 15 => ⟨S8x128x65x1, .f32⟩
  | 16 => ⟨S8x128x65x1, .f32⟩
  | 17 => ⟨S8x128x65x1024, .f32⟩
  | 18 => ⟨S8x128x65x1024, .f32⟩
  | 19 => ⟨S8x128x65x1, .f32⟩
  | 20 => ⟨S8x128x65, .f32⟩
  | 21 => ⟨S8x1x64x1, .i32⟩
  | 22 => ⟨S8x128x64x1, .i32⟩
  | 23 => ⟨S8x128x64x1024, .f32⟩
  | 24 => ⟨S_, .i32⟩
  | 25 => ⟨S8x128x64x1, .i32⟩
  | 26 => ⟨S8x128x64x1, .i1⟩
  | 27 => ⟨S_, .i32⟩
  | 28 => ⟨S8x128x64x1, .i32⟩
  | 29 => ⟨S8x128x64x1, .i32⟩
  | 30 => ⟨S8x128x64x1, .i32⟩
  | 31 => ⟨S8x128x64x1x1, .i32⟩
  | 32 => ⟨S1, .i32⟩
  | 33 => ⟨S_, .i32⟩
  | 34 => ⟨S8x128x64x1x1, .i32⟩
  | 35 => ⟨S8x128x64x1x1, .i1⟩
  | 36 => ⟨S1x1x1x1x1, .i32⟩
  | 37 => ⟨S8x128x64x1x1, .i32⟩
  | 38 => ⟨S8x128x64x1x1, .i1⟩
  | 39 => ⟨S8x128x64x1x1, .i1⟩
  | 40 => ⟨S_, .i1⟩
  | 41 => ⟨S8x128x64x1, .i1⟩
  | 42 => ⟨S8x128x64x1, .f32⟩
  | 43 => ⟨S_, .f32⟩
  | 44 => ⟨S8x128x64x1, .f32⟩
  | 45 => ⟨S8x128x64x1, .f32⟩
  | 46 => ⟨S8x128x64, .f32⟩
  | 47 => ⟨S64, .i32⟩
  | 48 => ⟨S1x64, .i32⟩
  | 49 => ⟨S8x1, .i32⟩
  | 50 => ⟨S8x64, .i32⟩
  | 51 => ⟨S8x64, .i32⟩
  | 52 => ⟨S8x64, .i1⟩
  | 53 => ⟨S8x1x64, .i1⟩
  | 54 => ⟨S_, .f32⟩
  | 55 => ⟨S_, .f32⟩
  | 56 => ⟨S8x128x64, .i1⟩
  | 57 => ⟨S8x128x64, .f32⟩
  | 58 => ⟨S8x128x64, .f32⟩
  | 59 => ⟨S_, .f32⟩
  | 60 => ⟨S8x1x1, .f32⟩
  | 61 => ⟨S_, .f32⟩
  | 62 => ⟨S8x1x64, .f32⟩
  | 63 => ⟨S8x1x65, .f32⟩
  | 64 => ⟨S8x127x65, .f32⟩
  | 65 => ⟨S8x128x65, .f32⟩
  | 66 => ⟨S_, .f32⟩
  | 67 => ⟨S8x128x1, .f32⟩
  | 68 => ⟨S8x128x65, .f32⟩
  | 69 => ⟨S8x8320, .f32⟩
  | 70 => ⟨S8320x8, .f32⟩
  | 71 => ⟨S8x8320, .f32⟩
  | 72 => ⟨S8320x8, .f32⟩
  | 73 => ⟨S_, .f32⟩
  | 74 => ⟨S65x8, .f32⟩
  | 75 => ⟨S_, .f32⟩
  | 76 => ⟨S8320x8, .f32⟩
  | 77 => ⟨S_, .i32⟩
  | 78 => ⟨S8320x8, .f32⟩
  | 79 => ⟨S8320x8, .f32⟩
  | 80 => ⟨S_, .i32⟩
  | 81 => ⟨S65x8, .f32⟩
  | 82 => ⟨S8320x8, .f32⟩
  | 83 => ⟨S_, .i32⟩
  | 84 => ⟨S_, .i1⟩
  | 85 => ⟨S_, .i32⟩
  | 86 => ⟨S1x8, .f32⟩
  | 87 => ⟨S8, .f32⟩
  | 88 => ⟨S_, .i32⟩
  | 89 => ⟨S1x8, .f32⟩
  | 90 => ⟨S8, .f32⟩
  | 91 => ⟨S1x8, .f32⟩
  | 92 => ⟨S8, .f32⟩
  | 93 => ⟨S8, .f32⟩
  | 94 => ⟨S1x8, .f32⟩
  | 95 => ⟨S8, .f32⟩
  | 96 => ⟨S8, .f32⟩
  | 97 => ⟨S8, .f32⟩
  | 98 => ⟨S8, .f32⟩
  | 99 => ⟨S8, .i1⟩
  | 100 => ⟨S8, .f32⟩
  | 101 => ⟨S8, .f32⟩
  | 102 => ⟨S8, .f32⟩
  | 103 => ⟨S8, .f32⟩
  | 104 => ⟨S8, .f32⟩
  | 105 => ⟨S8, .f32⟩
  | 106 => ⟨S8, .f32⟩
  | 107 => ⟨S64x8, .f32⟩
  | 108 => ⟨S1x8, .f32⟩
  | 109 => ⟨S65x8, .f32⟩
  | 110 => ⟨S1x8, .f32⟩
  | 111 => ⟨S_, .i32⟩
  | 112 => ⟨S8320x8, .f32⟩
  | 113 => ⟨S_, .i32⟩
  | 114 => ⟨S_, .i32⟩
  | 115 => ⟨S128x65x8, .f32⟩
  | 116 => ⟨S8, .i32⟩
  | 117 => ⟨S_, .i32⟩
  | 118 => ⟨S8, .i32⟩
  | 119 => ⟨S8, .i32⟩
  | 120 => ⟨S_, .i32⟩
  | 121 => ⟨S8, .i32⟩
  | 122 => ⟨S8, .i1⟩
  | 123 => ⟨S_, .i32⟩
  | 124 => ⟨S8, .i32⟩
  | 125 => ⟨S8, .i32⟩
  | 126 => ⟨S8, .i32⟩
  | 127 => ⟨S_, .i32⟩
  | _ => ⟨S8x128x65x1024, .f32⟩

abbrev hbmTy0_1 (i : Nat) : BufTy := match i % 128 with
  | 0 => ⟨S8, .i32⟩
  | 1 => ⟨S8, .i1⟩
  | 2 => ⟨S_, .i32⟩
  | 3 => ⟨S8, .i32⟩
  | 4 => ⟨S8, .i32⟩
  | 5 => ⟨S8, .i32⟩
  | 6 => ⟨S_, .i32⟩
  | 7 => ⟨S8, .i32⟩
  | 8 => ⟨S8, .i1⟩
  | 9 => ⟨S_, .i32⟩
  | 10 => ⟨S8, .i32⟩
  | 11 => ⟨S8, .i32⟩
  | 12 => ⟨S8, .i32⟩
  | 13 => ⟨S8x1, .i32⟩
  | 14 => ⟨S8x1, .i32⟩
  | 15 => ⟨S8x1, .i32⟩
  | 16 => ⟨S8x3, .i32⟩
  | 17 => ⟨S8, .f32⟩
  | 18 => ⟨S_, .i32⟩
  | 19 => ⟨S8, .i32⟩
  | 20 => ⟨S8, .i1⟩
  | 21 => ⟨S_, .i32⟩
  | 22 => ⟨S8, .i32⟩
  | 23 => ⟨S8, .i32⟩
  | 24 => ⟨S8, .i32⟩
  | 25 => ⟨S_, .i32⟩
  | 26 => ⟨S8, .i32⟩
  | 27 => ⟨S8, .i1⟩
  | 28 => ⟨S_, .i32⟩
  | 29 => ⟨S8, .i32⟩
  | 30 => ⟨S8, .i32⟩
  | 31 => ⟨S8, .i32⟩
  | 32 => ⟨S_, .i32⟩
  | 33 => ⟨S8, .i32⟩
  | 34 => ⟨S8, .i1⟩
  | 35 => ⟨S_, .i32⟩
  | 36 => ⟨S8, .i32⟩
  | 37 => ⟨S8, .i32⟩
  | 38 => ⟨S8, .i32⟩
  | 39 => ⟨S8x1, .i32⟩
  | 40 => ⟨S8x1, .i32⟩
  | 41 => ⟨S8x1, .i32⟩
  | 42 => ⟨S8x3, .i32⟩
  | 43 => ⟨S8, .f32⟩
  | 44 => ⟨S8, .f32⟩
  | 45 => ⟨S8, .f32⟩
  | 46 => ⟨S_, .f32⟩
  | 47 => ⟨S_, .f32⟩
  | 48 => ⟨S1, .f32⟩
  | _ => ⟨S8x128x65x1024, .f32⟩

abbrev hbmTy (i : Nat) : BufTy := match i / 128 with
  | 0 => hbmTy0_0 i
  | 1 => hbmTy0_1 i
  | _ => ⟨S8x128x65x1024, .f32⟩

abbrev bufTy : (tb : Table) → Fin (tcTables nBuf tb) → BufTy
  | .hbm, ⟨i, _⟩ => hbmTy i
  | _, _ => ⟨S8x128x65x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v15 : Ref sig .tc := ⟨.hbm, 58, rfl⟩
abbrev main_cst_0 : Ref sig .tc := ⟨.hbm, 59, rfl⟩
abbrev main_v16 : Ref sig .tc := ⟨.hbm, 60, rfl⟩
abbrev main_cst_1 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_cst_2 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_cst_3 : Ref sig .tc := ⟨.hbm, 73, rfl⟩
abbrev main_v27 : Ref sig .tc := ⟨.hbm, 74, rfl⟩
abbrev main_cst_4 : Ref sig .tc := ⟨.hbm, 75, rfl⟩
abbrev main_v28 : Ref sig .tc := ⟨.hbm, 76, rfl⟩
abbrev main_c : Ref sig .tc := ⟨.hbm, 77, rfl⟩
abbrev main_v29_0 : Ref sig .tc := ⟨.hbm, 78, rfl⟩
abbrev main_v29_1 : Ref sig .tc := ⟨.hbm, 79, rfl⟩
abbrev main_v29_2 : Ref sig .tc := ⟨.hbm, 80, rfl⟩
abbrev main_v29_3 : Ref sig .tc := ⟨.hbm, 81, rfl⟩
abbrev main_v29_4 : Ref sig .tc := ⟨.hbm, 82, rfl⟩
abbrev main_while0c_c_23 : Ref sig .tc := ⟨.hbm, 83, rfl⟩
abbrev main_while0c_v78 : Ref sig .tc := ⟨.hbm, 84, rfl⟩
abbrev main_while0b_call3_c : Ref sig .tc := ⟨.hbm, 85, rfl⟩
abbrev main_while0b_call3_v0 : Ref sig .tc := ⟨.hbm, 86, rfl⟩
abbrev main_while0b_v78 : Ref sig .tc := ⟨.hbm, 87, rfl⟩
abbrev main_while0b_call4_c : Ref sig .tc := ⟨.hbm, 88, rfl⟩
abbrev main_while0b_call4_v0 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_v82 : Ref sig .tc := ⟨.hbm, 93, rfl⟩
abbrev main_while0b_v83 : Ref sig .tc := ⟨.hbm, 94, rfl⟩
abbrev main_while0b_v84 : Ref sig .tc := ⟨.hbm, 95, rfl⟩
abbrev main_while0b_v85 : Ref sig .tc := ⟨.hbm, 96, rfl⟩
abbrev main_while0b_v86 : Ref sig .tc := ⟨.hbm, 97, rfl⟩
abbrev main_while0b_v87 : Ref sig .tc := ⟨.hbm, 98, rfl⟩
abbrev main_while0b_v88 : Ref sig .tc := ⟨.hbm, 99, rfl⟩
abbrev main_while0b_v89 : Ref sig .tc := ⟨.hbm, 100, rfl⟩
abbrev main_while0b_v90 : Ref sig .tc := ⟨.hbm, 101, rfl⟩
abbrev main_while0b_v91 : Ref sig .tc := ⟨.hbm, 102, rfl⟩
abbrev main_while0b_v92 : Ref sig .tc := ⟨.hbm, 103, rfl⟩
abbrev main_while0b_v93 : Ref sig .tc := ⟨.hbm, 104, rfl⟩
abbrev main_while0b_v94 : Ref sig .tc := ⟨.hbm, 105, rfl⟩
abbrev main_while0b_v95 : Ref sig .tc := ⟨.hbm, 106, rfl⟩
abbrev main_while0b_v96 : Ref sig .tc := ⟨.hbm, 107, rfl⟩
abbrev main_while0b_v97 : Ref sig .tc := ⟨.hbm, 108, rfl⟩
abbrev main_while0b_v98 : Ref sig .tc := ⟨.hbm, 109, rfl⟩
abbrev main_while0b_call5_v0 : Ref sig .tc := ⟨.hbm, 110, rfl⟩
abbrev main_while0b_call5_c : Ref sig .tc := ⟨.hbm, 111, rfl⟩
abbrev main_while0b_v99 : Ref sig .tc := ⟨.hbm, 112, rfl⟩
abbrev main_while0b_c_23 : Ref sig .tc := ⟨.hbm, 113, rfl⟩
abbrev main_while0b_v100 : Ref sig .tc := ⟨.hbm, 114, rfl⟩
abbrev main_v30 : Ref sig .tc := ⟨.hbm, 115, rfl⟩
abbrev main_v31 : Ref sig .tc := ⟨.hbm, 116, rfl⟩
abbrev main_c_5 : Ref sig .tc := ⟨.hbm, 117, rfl⟩
abbrev main_v32 : Ref sig .tc := ⟨.hbm, 118, rfl⟩
abbrev main_v33 : Ref sig .tc := ⟨.hbm, 119, rfl⟩
abbrev main_c_6 : Ref sig .tc := ⟨.hbm, 120, rfl⟩
abbrev main_v34 : Ref sig .tc := ⟨.hbm, 121, rfl⟩
abbrev main_v35 : Ref sig .tc := ⟨.hbm, 122, rfl⟩
abbrev main_c_7 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_c_8 : Ref sig .tc := ⟨.hbm, 127, rfl⟩
abbrev main_v39 : Ref sig .tc := ⟨.hbm, 128, rfl⟩
abbrev main_v40 : Ref sig .tc := ⟨.hbm, 129, rfl⟩
abbrev main_c_9 : Ref sig .tc := ⟨.hbm, 130, rfl⟩
abbrev main_v41 : Ref sig .tc := ⟨.hbm, 131, rfl⟩
abbrev main_v42 : Ref sig .tc := ⟨.hbm, 132, rfl⟩
abbrev main_v43 : Ref sig .tc := ⟨.hbm, 133, rfl⟩
abbrev main_c_10 : Ref sig .tc := ⟨.hbm, 134, rfl⟩
abbrev main_v44 : Ref sig .tc := ⟨.hbm, 135, rfl⟩
abbrev main_v45 : Ref sig .tc := ⟨.hbm, 136, rfl⟩
abbrev main_c_11 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_c_12 : Ref sig .tc := ⟨.hbm, 146, rfl⟩
abbrev main_v54 : Ref sig .tc := ⟨.hbm, 147, rfl⟩
abbrev main_v55 : Ref sig .tc := ⟨.hbm, 148, rfl⟩
abbrev main_c_13 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_c_14 : Ref sig .tc := ⟨.hbm, 153, rfl⟩
abbrev main_v59 : Ref sig .tc := ⟨.hbm, 154, rfl⟩
abbrev main_v60 : Ref sig .tc := ⟨.hbm, 155, rfl⟩
abbrev main_c_15 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_c_16 : Ref sig .tc := ⟨.hbm, 160, rfl⟩
abbrev main_v64 : Ref sig .tc := ⟨.hbm, 161, rfl⟩
abbrev main_v65 : Ref sig .tc := ⟨.hbm, 162, rfl⟩
abbrev main_c_17 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_cst_18 : Ref sig .tc := ⟨.hbm, 174, rfl⟩
abbrev main_v76 : Ref sig .tc := ⟨.hbm, 175, rfl⟩
abbrev main_v77 : Ref sig .tc := ⟨.hbm, 176, rfl⟩

abbrev nD : Nat := 1
abbrev τ : Topo := Topo.v7x

variable {F : FTy → Type} [FloatOps F]

abbrev main_while0_count : Scf.Loop 32 := ⟨0#32, 8320#32, 1#32⟩
-- ==== Proof.RefRun.lean ====
/- The run of the reference: every execution ends, every unscoped buffer at the fold of its operations, every
   semaphore counter at zero. -/
module

public import proofs.«01_k».proof.Proof.Gen.ReferenceIdeal.Run

@[expose] public section

set_option maxRecDepth 16384

noncomputable section

namespace Cert.Rnnt.RefRun

open Cert.ReferenceIdeal Cert.ReferenceIdeal.Gen Cert.ReferenceIdeal.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs CSeg Ticket)

variable {F : FTy → Type} [FloatOps F]

local notation "𝕄" => MT nD τ sig Unit (Elt F) ℕ (Option PUnit) ℕ

/-- No pipeline, hence nothing to admit. -/
abbrev noAdm : (p : Fin 0) → (pcfgs (F := F) p).Adm := fun p => p.elim0
/-- No ticket. -/
abbrev noTk : Fin 0 → Ticket (Ix := Unit) (Name := ℕ) (U := Option PUnit) (Lvl := ℕ) (nD := nD) (τ := τ) (pcfgs (F := F)) noAdm :=
  fun j => j.elim0
/-- No level is assigned. -/
abbrev noL : GSem nD τ sig → Finset Unit := fun _ => ∅
abbrev noLv : GSem nD τ sig → Unit → ℕ := fun _ _ => 0
/-- What a segment carries beside the buffers: the core owes nothing. -/
abbrev Ow (c : Dev nD) : sProp 𝕄 := iprop(∃ W, owes (c : Thread nD τ) (0 : CellTallies nD τ sig Unit) W)

variable (m : (ℓ : Loc nD τ sig) → Buf (Elt F) ℓ) (ρ : Dev nD → PrngReg)

/-- The condition's specification with the core's debts framed through it. -/
theorem loopCond : LoopCond (pcfgs (F := F)) defs₀ Variants.none loops Ow (main_while0_cond (F := F)) condOps bodyI
    (entryContents preI m) 8320 := fun k hk c bd => by
  refine BIBase.Entails.trans (?_ : _ ⊢ iprop(iprop(boundary (c : Thread nD τ)
      ∗ held (c : Thread nD τ) (ucRefs τ sig) (atTrip condOps bodyI (entryContents preI m) k c)) ∗ Ow c))
    (((sep_mono_left (cond_spec m k hk c bd)).trans (wp_frame_r _ _ _)).trans (wp_mono _ _ _ fun v => ?_))
  · iintro ⟨Hbd, Hh, HR⟩
    isplitl [Hbd Hh]; · isplitl [Hbd] <;> iassumption
    iexact HR
  · iintro ⟨⟨%hv, Hbd, Hh⟩, HR⟩
    isplitr; · ipureintro; exact hv
    isplitl [Hbd]; · iexact Hbd
    isplitl [Hh] <;> iassumption

/-- The segments of @main: the host operations before the loop, the loop, the host operations after it. -/
def refSegs : List (CSeg (pcfgs (F := F)) noAdm defs₀ Variants.none noL noLv loops noTk) :=
  segsOf _ _ _ _ _ _ _ _ Ow preI hpre (launchContents m)
    ++ loopSeg _ _ _ _ _ _ _ _ 0 main_while0_cond main_while0_body rfl condOps bodyI hbodyI (by rw [while0_body_chain]; rfl) 8320
        (entryContents preI m) Ow (loopCond m)
      :: segsOf _ _ _ _ _ _ _ _ Ow postI hpost (fun c => after condOps (atTrip condOps bodyI (entryContents preI m) 8320 c))

/-- The segments make up the program. -/
theorem refSegs_prog : (refSegs (F := F) m).map CSeg.prog
    = (preI.map fun ops => (seq ops : Prog _ PUnit)) ++ HostLoop.enter 0 :: postI.map fun ops => (seq ops : Prog _ PUnit) := by
  unfold refSegs
  rw [List.map_append, List.map_cons, segsOf_prog, segsOf_prog]
  rfl

/-- Each segment starts from what the one before it leaves. -/
theorem refSegs_chains :
    CSeg.Chains (fun c => iprop(held (c : Thread nD τ) (ucRefs τ sig) (launchContents m c) ∗ Ow c)) (refSegs (F := F) m)
      (fun c => iprop(iprop(held (c : Thread nD τ) (ucRefs τ sig) (finalContents condOps preI bodyI postI 8320 m c))
        ∗ ∃ W, owes (c : Thread nD τ) (0 : CellTallies nD τ sig Unit) W)) := by
  unfold refSegs
  exact CSeg.Chains.append (segsOf_chains _ _ _ _ _ _ _ _ Ow preI hpre _) ⟨fun _ => .rfl, segsOf_chains _ _ _ _ _ _ _ _ Ow postI hpost _⟩

/-- The core has no unscoped semaphore. -/
theorem all_scoped : ∀ sm : SemLoc sig, sm.isScoped .tc = true := by decide

set_option maxRecDepth 100000 in
/-- Every execution of the reference ends, every unscoped buffer at the fold of its operations and every semaphore
    counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = finalContents condOps preI bodyI postI 8320 m c (Proc.devRef .tc b))
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm (fun k => k.1.elim0) defs₀ Variants.none noL noLv loops noTk m ρ main (refSegs m)
    (fun c Q => by
      show wp _ _ _ (Pipeline.chain ((refSegs m).map CSeg.prog)) Q ⊢ _
      rw [refSegs_prog m, main_chain c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Ow c))
    (Tₙ := fun c => iprop(held (c : Thread nD τ) (ucRefs τ sig) (finalContents condOps preI bodyI postI 8320 m c)))
    (hch := refSegs_chains m)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = finalContents condOps preI bodyI postI 8320 m c b)
    (hfin := fun c s' => by
      unfold held
      iintro ⟨Hh, HSI⟩
      ihave Hr := (pointsTo_read_all (ucRefs τ sig) (fun b => ((c : Dev nD), b)) (fun b => finalContents condOps preI bodyI postI 8320 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (all_scoped g.2))⟩)

/-- The reference is written by no operation of a loop trip. -/
structure TripKeeps (r : Ref sig .tc) : Prop where
  cond : r ∉ condOps_W
  b0 : r ∉ while0Ops0_W
  b1 : r ∉ while0Ops0_1_W
  b2 : r ∉ while0Ops0_2_W
  b3 : r ∉ while0Ops0_3_W
  b4 : r ∉ while0Ops0_4_W

/-- A reference that no trip writes is as at the loop's entry before every trip. -/
theorem atK_keep (c : Dev nD) (r : Ref sig .tc) (h : TripKeeps r) : ∀ k,
    atK m k c (Proc.devRef .tc r) = entryContents preI m c (Proc.devRef .tc r)
  | 0 => rfl
  | k + 1 => by
    refine Eq.trans ?_ (atK_keep c r h k)
    rw [show atK m (k + 1) c = afterL bodyI (after condOps (atK m k c)) from rfl]
    rw [afterL_cons, afterL_cons, afterL_cons, afterL_cons, afterL_cons, afterL_nil]
    rw [after_of_writes_sub _ _ while0Ops0_4_writes h.b4, after_of_writes_sub _ _ while0Ops0_3_writes h.b3,
      after_of_writes_sub _ _ while0Ops0_2_writes h.b2, after_of_writes_sub _ _ while0Ops0_1_writes h.b1,
      after_of_writes_sub _ _ while0Ops0_writes h.b0, after_of_writes_sub condOps _ condOps_writes h.cond]

/-- The contents after the loop, before the operations that follow it. -/
abbrev exitC (c : Dev nD) : Valuation τ sig (Elt F) := after condOps (atK m 8320 c)

/-- What no trip writes is after the loop as before it. -/
theorem exitC_keep (c : Dev nD) (r : Ref sig .tc) (h : TripKeeps r) :
    exitC m c (Proc.devRef .tc r) = entryContents preI m c (Proc.devRef .tc r) :=
  (after_of_writes_sub condOps _ condOps_writes h.cond).trans (atK_keep m c r h 8320)

/-- The references that the operations after the loop write. -/
abbrev postW : List (Ref sig .tc) := [main_v30, main_v31, main_c_5, main_v32, main_v33, main_c_6, main_v34, main_v35, main_c_7, main_v36, main_v37, main_v38, main_c_8, main_v39, main_v40, main_c_9, main_v41, main_v42, main_v43, main_c_10, main_v44, main_v45, main_c_11, main_v46, main_v47, main_v48, main_v49, main_v50, main_v51, main_v52, main_v53, main_c_12, main_v54, main_v55, main_c_13, main_v56, main_v57, main_v58, main_c_14, main_v59, main_v60, main_c_15, main_v61, main_v62, main_v63, main_c_16, main_v64, main_v65, main_c_17, main_v66, main_v67, main_v68, main_v69, main_v70, main_v71, main_v72, main_v73, main_v74, main_v75, main_cst_18, main_v76, main_v77]
/-- The operations after the loop write only the listed references. -/
theorem post_writes : (hostOps0_6 : List (HloOp τ sig (Elt F))).Forall fun op => op.writes ⊆ (postW.map (Proc.devRef (τ := τ) .tc)).toFinset :=
  StableHlo.forall_writes_sub_of_map rfl

/-- The arguments are as launched before the loop. -/
theorem entry_args (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) :
    entryContents preI m c (Proc.devRef .tc r) = m ((c.tc : Thread nD τ).loc r) := by
  simp only [entryContents, afterL_cons, afterL_nil]
  rw [after_of_writes_sub _ _ hostOps0_5_writes h5, after_of_writes_sub _ _ hostOps0_4_writes h4,
    after_of_writes_sub _ _ hostOps0_3_writes h3, after_of_writes_sub _ _ hostOps0_2_writes h2,
    after_of_writes_sub _ _ hostOps0_1_writes h1, after_of_writes_sub _ _ hostOps0_writes h0]

/-- A reference written by no operation at all ends as launched. -/
theorem final_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h : TripKeeps r) (hp : r ∉ postW) :
    finalContents condOps preI bodyI postI 8320 m c (Proc.devRef .tc r) = m ((c.tc : Thread nD τ).loc r) :=
  (after_of_writes_sub hostOps0_6 _ post_writes hp).trans ((exitC_keep m c r h).trans (entry_args m c r h0 h1 h2 h3 h4 h5))

/-- No trip writes argument 0. -/
theorem trip_arg0 : TripKeeps main_arg0 := by constructor <;> decide +kernel
/-- Argument 0 ends as launched. -/
theorem final_arg0 (c : Dev nD) : finalContents condOps preI bodyI postI 8320 m c (Proc.devRef .tc main_arg0) = m ((c.tc : Thread nD τ).loc main_arg0) :=
  final_keep m c _ (by decide +kernel) (by decide +kernel) (by decide +kernel) (by decide +kernel) (by decide +kernel) (by decide +kernel) trip_arg0 (by decide +kernel)
/-- No trip writes argument 1. -/
theorem trip_arg1 : TripKeeps main_arg1 := by constructor <;> decide +kernel
/-- Argument 1 ends as launched. -/
theorem final_arg1 (c : Dev nD) : finalContents condOps preI bodyI postI 8320 m c (Proc.devRef .tc main_arg1) = m ((c.tc : Thread nD τ).loc main_arg1) :=
  final_keep m c _ (by decide +kernel) (by decide +kernel) (by decide +kernel) (by decide +kernel) (by decide +kernel) (by decide +kernel) trip_arg1 (by decide +kernel)
/-- No trip writes argument 2. -/
theorem trip_arg2 : TripKeeps main_arg2 := by constructor <;> decide +kernel
/-- Argument 2 ends as launched. -/
theorem final_arg2 (c : Dev nD) : finalContents condOps preI bodyI postI 8320 m c (Proc.devRef .tc main_arg2) = m ((c.tc : Thread nD τ).loc main_arg2) :=
  final_keep m c _ (by decide +kernel) (by decide +kernel) (by decide +kernel) (by decide +kernel) (by decide +kernel) (by decide +kernel) trip_arg2 (by decide +kernel)
/-- No trip writes argument 3. -/
theorem trip_arg3 : TripKeeps main_arg3 := by constructor <;> decide +kernel
/-- Argument 3 ends as launched. -/
theorem final_arg3 (c : Dev nD) : finalContents condOps preI bodyI postI 8320 m c (Proc.devRef .tc main_arg3) = m ((c.tc : Thread nD τ).loc main_arg3) :=
  final_keep m c _ (by decide +kernel) (by decide +kernel) (by decide +kernel) (by decide +kernel) (by decide +kernel) (by decide +kernel) trip_arg3 (by decide +kernel)

/-- The reference ends with its arguments unchanged and every semaphore counter at zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c main_arg0 rfl).trans (final_arg0 m c), (h.1 c main_arg1 rfl).trans (final_arg1 m c),
     (h.1 c main_arg2 rfl).trans (final_arg2 m c), (h.1 c main_arg3 rfl).trans (final_arg3 m c)⟩, h.2⟩) (run m ρ)

end Cert.Rnnt.RefRun

end
-- ==== Proof.KerRun.lean ====
/- The run of the kernel: every execution ends, every unscoped buffer at the last boundary's contents, every
   semaphore counter at zero. -/
module

public import proofs.«01_k».proof.Proof.Gen.KernelIdeal.Frame

@[expose] public section

set_option maxRecDepth 16384

noncomputable section

namespace Cert.Rnnt.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every execution of the kernel ends, every unscoped buffer at the last boundary's contents and every semaphore
    counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h hz => ⟨h, funext fun g => hz g (.inr (no_unscoped g.2))⟩)

end Cert.Rnnt.KerRun

end
-- ==== Proof.Lattice.lean ====
/- The pure mathematics of the loss over the extended reals: the two-argument log-sum-exp in the two forms the
   programs write it, the log-softmax in its two forms, and the lattice of forward scores. -/
module

public import Idealize.ShloMosaic.PureOps.Ideal
public import Idealize.ShloMosaic.Lib.Pointwise

@[expose] public section

noncomputable section

namespace Cert.Rnnt

open Idealize.ShloMosaic

/-! ## The exponential and the logarithm at the infinities -/

/-- The exponential of minus infinity. -/
theorem exp_bot' : Ideal.exp ⊥ = 0 := rfl
/-- The exponential of plus infinity. -/
theorem exp_top' : Ideal.exp ⊤ = ⊤ := rfl
/-- The exponential of a real. -/
theorem exp_coe' (r : ℝ) : Ideal.exp (r : EReal) = ((Real.exp r : ℝ) : EReal) := rfl
/-- The logarithm of minus infinity. -/
theorem log_bot' : Ideal.log ⊥ = ⊥ := rfl
/-- The logarithm of plus infinity. -/
theorem log_top' : Ideal.log ⊤ = ⊤ := rfl
/-- The logarithm of a real. -/
theorem log_coe' (r : ℝ) : Ideal.log (r : EReal) = if r ≤ 0 then ⊥ else ((Real.log r : ℝ) : EReal) := rfl

/-! ## The two-argument log-sum-exp -/

/-- The log-sum-exp of two scores, written by their maximum and minimum. -/
def lae (x y : EReal) : EReal := max x y + Ideal.log1p (Ideal.exp (min x y - max x y))

/-- The minimum less the maximum is minus the absolute value of the difference, at infinite scores too. -/
theorem min_sub_max (x y : EReal) : min x y - max x y = -(max (x - y) (-(x - y))) := by
  induction x with
  | bot => induction y <;> simp
  | top => induction y <;> simp
  | coe x =>
    induction y with
    | bot => simp
    | top => simp
    | coe y =>
      rcases le_total x y with h | h
      · rw [min_eq_left (EReal.coe_le_coe_iff.2 h), max_eq_right (EReal.coe_le_coe_iff.2 h), max_eq_right]
        · simp
        · norm_cast; linarith
      · rw [min_eq_right (EReal.coe_le_coe_iff.2 h), max_eq_left (EReal.coe_le_coe_iff.2 h), max_eq_left]
        · norm_cast; ring
        · norm_cast; linarith

/-- The same log-sum-exp written by the absolute value of the difference. -/
theorem lae_eq_abs (x y : EReal) :
    max x y + Ideal.log1p (Ideal.exp (-(max (x - y) (-(x - y))))) = lae x y := by
  rw [lae, min_sub_max]

/-- The logarithm of one plus zero. -/
theorem log1p_zero : Ideal.log1p 0 = 0 := by
  rw [Ideal.log1p, add_zero, show (1 : EReal) = ((1 : ℝ) : EReal) from rfl, log_coe']
  simp

/-- The log-sum-exp of minus infinity twice. -/
theorem lae_bot_bot : lae ⊥ ⊥ = ⊥ := by simp [lae]

/-- The log-sum-exp of zero and minus infinity. -/
theorem lae_zero_bot : lae 0 ⊥ = 0 := by
  simp [lae, exp_bot', log1p_zero]

/-- The logarithm of one plus a value below plus infinity is below it. -/
theorem log1p_lt_top {x : EReal} (h : x < ⊤) : Ideal.log1p x < ⊤ := by
  induction x with
  | bot => simp [Ideal.log1p, log_bot']
  | top => simp at h
  | coe r =>
    have e : (1 : EReal) + (r : EReal) = ((1 + r : ℝ) : EReal) := by norm_cast
    rw [Ideal.log1p, e, log_coe']
    split_ifs <;> simp [EReal.coe_lt_top]

/-- The exponential of a value below plus infinity is below it. -/
theorem exp_lt_top {x : EReal} (h : x < ⊤) : Ideal.exp x < ⊤ := by
  induction x with
  | bot => simp [exp_bot']
  | top => simp at h
  | coe r => exact EReal.coe_lt_top _

/-- Scores below plus infinity have a log-sum-exp below plus infinity. -/
theorem lae_lt_top {x y : EReal} (hx : x < ⊤) (hy : y < ⊤) : lae x y < ⊤ := by
  unfold lae
  refine EReal.add_lt_top (max_lt hx hy).ne (log1p_lt_top (exp_lt_top ?_)).ne
  induction x with
  | top => simp at hx
  | bot => simp
  | coe x =>
    induction y with
    | top => simp at hy
    | bot => simp
    | coe y =>
      rcases le_total x y with h | h
      · rw [min_eq_left (EReal.coe_le_coe_iff.2 h), max_eq_right (EReal.coe_le_coe_iff.2 h), ← EReal.coe_sub]
        exact EReal.coe_lt_top _
      · rw [min_eq_right (EReal.coe_le_coe_iff.2 h), max_eq_left (EReal.coe_le_coe_iff.2 h), ← EReal.coe_sub]
        exact EReal.coe_lt_top _

/-! ## The log-softmax -/

/-- The real exponential of a score below plus infinity, zero at minus infinity. -/
def ew (x : EReal) : ℝ := if x = ⊥ then 0 else Real.exp x.toReal

/-- The real exponential is nonnegative. -/
theorem ew_nonneg (x : EReal) : 0 ≤ ew x := by
  unfold ew; split_ifs
  · exact le_rfl
  · exact (Real.exp_pos _).le

/-- The exponential of a score less a real, as a real. -/
theorem exp_sub_coe {x : EReal} (hx : x ≠ ⊤) (c : ℝ) :
    Ideal.exp (x - (c : EReal)) = ((ew x * Real.exp (-c) : ℝ) : EReal) := by
  induction x with
  | top => exact absurd rfl hx
  | bot => simp [ew, exp_bot']
  | coe r =>
    rw [← EReal.coe_sub]
    show ((Real.exp (r - c) : ℝ) : EReal) = _
    simp [ew, ← Real.exp_add, sub_eq_add_neg]

/-- A sum of reals as a sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The logarithm of the sum of exponentials shifted by a real `c` is the unshifted one less `c`. -/
theorem log_sum_exp {ι : Type*} [Fintype ι] (a : ι → EReal) (ha : ∀ w, a w ≠ ⊤) (v : ι) (hv : a v ≠ ⊥) (c : ℝ) :
    Ideal.log (∑ w, Ideal.exp (a w - (c : EReal))) = ((Real.log (∑ w, ew (a w)) - c : ℝ) : EReal) := by
  have hpos : 0 < ∑ w, ew (a w) :=
    Finset.sum_pos' (fun w _ => ew_nonneg _) ⟨v, Finset.mem_univ _, by simp [ew, hv, Real.exp_pos]⟩
  simp only [fun w => exp_sub_coe (ha w) c]
  rw [← coe_sum, ← Finset.sum_mul]
  have hp : 0 < (∑ w, ew (a w)) * Real.exp (-c) := mul_pos hpos (Real.exp_pos _)
  rw [log_coe', if_neg (not_le.2 hp), Real.log_mul hpos.ne' (Real.exp_pos _).ne', Real.log_exp, sub_eq_add_neg]

/-- An exponential is nonnegative. -/
theorem exp_nonneg (x : EReal) : 0 ≤ Ideal.exp x := by
  induction x with
  | top => exact le_top
  | bot => exact le_rfl
  | coe r => exact EReal.coe_nonneg.2 (Real.exp_pos _).le

/-- A sum of exponentials with one plus infinity among its exponents is plus infinity. -/
theorem sum_exp_top {ι : Type*} [Fintype ι] (f : ι → EReal) (w : ι) (hw : f w = ⊤) : ∑ i, Ideal.exp (f i) = ⊤ := by
  refine top_le_iff.1 (le_trans (le_of_eq ?_) (Finset.single_le_sum (fun i _ => exp_nonneg (f i)) (Finset.mem_univ w)))
  rw [hw]; rfl

/-- The log-softmax shifted by a fixed real is the log-softmax shifted by the largest score: at a score minus
    infinity both are minus infinity, and so they are when some score is plus infinity. -/
theorem logsoftmax_eq {ι : Type*} [Fintype ι] (a : ι → EReal) (m : EReal) (hm : ∀ w, a w ≤ m)
    (htop : m = ⊤ → ∃ w, a w = ⊤) (c : ℝ) (v : ι) :
    a v - ((c : EReal) + Ideal.log (∑ w, Ideal.exp (a w - (c : EReal))))
      = (a v - m) - Ideal.log (∑ w, Ideal.exp (a w - m)) := by
  by_cases hb : a v = ⊥
  · rw [hb]; simp [sub_eq_add_neg]
  by_cases ht : m = ⊤
  · obtain ⟨w, hw⟩ := htop ht
    have e : ∑ w, Ideal.exp (a w - (c : EReal)) = ⊤ :=
      sum_exp_top _ w (by rw [hw]; exact EReal.top_sub_coe c)
    rw [e, ht]
    simp [sub_eq_add_neg, log_top']
  · have ha : ∀ w, a w ≠ ⊤ := fun w h => ht (top_le_iff.1 (h ▸ hm w))
    have hmb : m ≠ ⊥ := fun h => hb (le_bot_iff.1 (h ▸ hm v))
    lift m to ℝ using ⟨ht, hmb⟩
    rw [log_sum_exp a ha v hb c, log_sum_exp a ha v hb m]
    obtain ⟨x, hx⟩ : ∃ x : ℝ, (x : EReal) = a v := ⟨_, EReal.coe_toReal (ha v) hb⟩
    rw [← hx]
    norm_cast
    ring

/-- A log-softmax is never plus infinity. -/
theorem logsoftmax_lt_top {ι : Type*} [Fintype ι] (a : ι → EReal) (c : ℝ) (v : ι) :
    a v - ((c : EReal) + Ideal.log (∑ w, Ideal.exp (a w - (c : EReal)))) < ⊤ := by
  by_cases hb : a v = ⊥
  · rw [hb]; simp [sub_eq_add_neg]
  by_cases ht : ∃ w, a w = ⊤
  · obtain ⟨w, hw⟩ := ht
    have e : ∑ w, Ideal.exp (a w - (c : EReal)) = ⊤ :=
      sum_exp_top _ w (by rw [hw]; exact EReal.top_sub_coe c)
    rw [e]
    simp [sub_eq_add_neg, log_top']
  · have ha : ∀ w, a w ≠ ⊤ := fun w h => ht ⟨w, h⟩
    rw [log_sum_exp a ha v hb c]
    obtain ⟨x, hx⟩ : ∃ x : ℝ, (x : EReal) = a v := ⟨_, EReal.coe_toReal (ha v) hb⟩
    rw [← hx]
    norm_cast
    exact EReal.coe_lt_top _

/-! ## The forward scores -/

/-- The forward score of frame `t` after `u` labels: `lb t u` is the log-probability of a blank there and
    `ll t u` that of the next label. -/
def alpha (lb ll : ℕ → ℕ → EReal) : ℕ → ℕ → EReal
  | 0, 0 => 0
  | 0, u + 1 => lae ⊥ (alpha lb ll 0 u + ll 0 u)
  | t + 1, 0 => lae (alpha lb ll t 0 + lb t 0) ⊥
  | t + 1, u + 1 => lae (alpha lb ll t (u + 1) + lb t (u + 1)) (alpha lb ll (t + 1) u + ll (t + 1) u)

/-- Scores below plus infinity have forward scores below plus infinity. -/
theorem alpha_lt_top (lb ll : ℕ → ℕ → EReal) (hb : ∀ t u, lb t u < ⊤) (hl : ∀ t u, ll t u < ⊤) (t u : ℕ) :
    alpha lb ll t u < ⊤ := by
  induction t generalizing u with
  | zero =>
    induction u with
    | zero => rw [alpha]; exact EReal.zero_lt_top
    | succ u ih => rw [alpha]; exact lae_lt_top bot_lt_top (EReal.add_lt_top ih.ne (hl _ _).ne)
  | succ t iht =>
    induction u with
    | zero => rw [alpha]; exact lae_lt_top (EReal.add_lt_top (iht _).ne (hb _ _).ne) bot_lt_top
    | succ u ih =>
      rw [alpha]
      exact lae_lt_top (EReal.add_lt_top (iht _).ne (hb _ _).ne) (EReal.add_lt_top ih.ne (hl _ _).ne)

/-- The score of a cell depends on the label probabilities of the earlier columns and on the blank probabilities of
    the earlier frames only. -/
theorem alpha_congr (lb lb' ll ll' : ℕ → ℕ → EReal) (T U : ℕ) (hb : ∀ t u, t < T → u ≤ U → lb t u = lb' t u)
    (hl : ∀ t u, t ≤ T → u < U → ll t u = ll' t u) (t u : ℕ) (ht : t ≤ T) (hu : u ≤ U) :
    alpha lb ll t u = alpha lb' ll' t u := by
  induction t generalizing u with
  | zero =>
    induction u with
    | zero => simp only [alpha]
    | succ u ih => rw [alpha, alpha, ih (by omega), hl 0 u ht (by omega)]
  | succ t iht =>
    induction u with
    | zero => rw [alpha, alpha, iht _ (by omega) (by omega), hb t 0 (by omega) (by omega)]
    | succ u ih =>
      rw [alpha, alpha, iht _ (by omega) hu, hb t (u + 1) (by omega) hu, ih (by omega), hl (t + 1) u ht (by omega)]

/-- Minus a sum of scores below plus infinity is the sum of their negations. -/
theorem neg_sum {ι : Type*} (s : Finset ι) (f : ι → EReal) (hf : ∀ i, f i < ⊤) : -(∑ i ∈ s, f i) = ∑ i ∈ s, -f i := by
  classical
  have key : (∑ i ∈ s, f i) < ⊤ ∧ -(∑ i ∈ s, f i) = ∑ i ∈ s, -f i := by
    induction s using Finset.induction_on with
    | empty => simp
    | insert a s h ih =>
      rw [Finset.sum_insert h, Finset.sum_insert h]
      refine ⟨EReal.add_lt_top (hf a).ne ih.1.ne, ?_⟩
      rw [EReal.neg_add (.inr ih.1.ne) (.inl (hf a).ne), sub_eq_add_neg, ih.2]
  exact key.2

end Cert.Rnnt

end
-- ==== Proof.K0Value.lean ====
/- What the first region leaves: the two tables of log-probabilities as functions of the scores and labels. -/
module

public import proofs.«01_k».proof.Proof.Gen.KernelIdeal.Frame
public import proofs.«01_k».proof.Proof.Lattice
public import Idealize.ShloMosaic.Lib.Pointwise
public import Idealize.ShloMosaic.Lib.Pipeline.ValueKit

@[expose] public section

set_option maxRecDepth 16384

noncomputable section

namespace Cert.Rnnt.K0

open Cert.KernelIdeal Cert.KernelIdeal.Gen
open Idealize.ShloMosaic Idealize.ShloMosaic.TcCoe Idealize.ShloMosaic.Tactic
open Idealize.ShloMosaic.Pipeline

/-- The printed constant 4. -/
def four : EReal := (Scalar.ofBits (F := Ideal) .f32 0x40800000#32)

/-- The logarithm of the sum of exponentials the kernel subtracts, for one row of scores. -/
def norm (a : Fin 1024 → EReal) : EReal := four + Ideal.log (∑ v, Ideal.exp (a v - four))

/-- The row's score at a label, as a sum against the label's indicator. -/
def pick (a : Fin 1024 → EReal) (l : BitVec 32) : EReal :=
  ∑ v : Fin 1024, a v * FloatOps.sitofp (F := Ideal) .f32 (BitVec.setWidth 32 (IntOp.cmpi .eq (BitVec.ofNat 32 v) l))

/-- What the first call's body stores for a blank, at an entry. -/
theorem pay3_at (x : Vec Ideal S1x64x65x1024 .f32) (t : Fin 64) (u : Fin 65) :
    k0_pay3 x (ix4 t 0 0 u) = x (ix4 0 t u 0) - norm (fun v => x (ix4 0 t u v)) := by
  unfold norm four; pointwise! [k0_pay3, k0_pay2, k0_pay1]

/-- What the first call's body stores for a label, at an entry. -/
theorem pay4_at (x : Vec Ideal S1x64x65x1024 .f32) (l : Vec Ideal S1x64x1 .i32) (t : Fin 64) (u : Fin 64) :
    k0_pay4 x l (ix4 t 0 0 u)
      = pick (fun v => x (ix4 0 t ⟨u, by omega⟩ v)) (l (ix3 0 u 0)) - norm (fun v => x (ix4 0 t ⟨u, by omega⟩ v)) := by
  unfold norm four pick; pointwise! [k0_pay4, k0_pay2, k0_pay1]

variable (m : (ℓ : Loc nD τ sig) → Buf (Elt Ideal) ℓ) (ρ : Dev nD → PrngReg) (c : Dev nD)

/-- The scores as launched. -/
abbrev acts : Vec Ideal S8x128x65x1024 .f32 := m ((c : Thread nD τ).loc main_arg0)
/-- The labels as launched. -/
abbrev labels : Vec Ideal S8x64 .i32 := m ((c : Thread nD τ).loc main_arg1)

/-- The table of blank log-probabilities. -/
def blankTab (a : Vec Ideal S8x128x65x1024 .f32) : Vec Ideal S128x8x1x65 .f32 := fun i =>
  a (ix4 (i 1) (i 0) (i 3) 0) - norm (fun v => a (ix4 (i 1) (i 0) (i 3) v))

/-- The table of label log-probabilities. -/
def labelTab (a : Vec Ideal S8x128x65x1024 .f32) (l : Vec Ideal S8x64 .i32) : Vec Ideal S128x8x1x64 .f32 := fun i =>
  pick (fun v => a (ix4 (i 1) (i 0) ⟨(i 3).val, by have := (i 3).isLt; simp at this; omega⟩ v)) (l (ix2 (i 1) (i 3)))
    - norm (fun v => a (ix4 (i 1) (i 0) ⟨(i 3).val, by have := (i 3).isLt; simp at this; omega⟩ v))

/-- Every window's index map, at every point: the points run over the batch, then over the two halves of the time. -/
theorem idx : ∀ t : Fin cfg0.N, win0_0.index t = ![t.val / 2, t.val % 2, 0, 0] ∧ win0_1.index t = ![t.val / 2, 0, 0]
    ∧ win0_2.index t = ![t.val % 2, t.val / 2, 0, 0] ∧ win0_3.index t = ![t.val % 2, t.val / 2, 0, 0] ∧ t.val / 2 < 8 :=
  (by decide +kernel : ∀ t : Fin grid0.N, _)

/-- The labels as the region finds them: reshaped. -/
theorem v0_eq : (V1 m ρ c main_v0 : Vec Ideal S8x64x1 .i32)
    = shapeCast S8x64x1 (labels m c) shapeCasts_S8x64_S8x64x1 := by
  show W1 m ρ c (Proc.devRef .tc main_v0) = _
  unfold W1
  after_results
  rfl

/-- The reshaped labels at an entry. -/
theorem v0_at (b : Fin 8) (u : Fin 64) : (V1 m ρ c main_v0 : Vec Ideal S8x64x1 .i32) (ix3 b u 0) = labels m c (ix2 b u) := by
  rw [v0_eq]; generalize labels m c = l; pointwise!

/-- The scores' block at a point. -/
theorem scores_at (t : Fin cfg0.N) (s : Fin 64) (u : Fin 65) (v : Fin 1024) :
    iblk0 (V1 m ρ) c 0 t (ix4 0 s u v)
      = acts m c (ix4 ⟨t.val / 2, (idx t).2.2.2.2⟩ ⟨t.val % 2 * 64 + s.val, by omega⟩ u v) := by
  have e : V1 m ρ c main_arg0 = acts m c := W1_args m ρ c main_arg0 (by simp [argRefs])
  rw [← e]
  blk_ext [iblk0, idx t]

/-- The labels' block at a point. -/
theorem labels_at (t : Fin cfg0.N) (u : Fin 64) :
    iblk0 (V1 m ρ) c 1 t (ix3 0 u 0) = labels m c (ix2 ⟨t.val / 2, (idx t).2.2.2.2⟩ u) := by
  rw [← v0_at m ρ c]
  blk_ext [iblk0, idx t]

/-- What the body stores in the blank table's block is the table at the block's place. -/
theorem point2 (t : Fin cfg0.N) (y : S64x1x1x65.Idx) :
    k0_pay3 (iblk0 (V1 m ρ) c 0 t) y = blankTab (acts m c) (((cfg0.win 2).blk t).view.emb y) := by
  obtain ⟨s, u, rfl⟩ : ∃ (s : Fin 64) (u : Fin 65), y = ix4 s 0 0 u := ⟨y 0, y 3, by
    funext a; apply Fin.ext
    have h1 : (y 1).val = 0 := by have := (y 1).isLt; simpa using this
    have h2 : (y 2).val = 0 := by have := (y 2).isLt; simpa using this
    match a with
    | ⟨0, _⟩ => rfl
    | ⟨1, _⟩ => exact h1
    | ⟨2, _⟩ => exact h2
    | ⟨3, _⟩ => rfl⟩
  have ey : ((cfg0.win 2).blk t).view.emb (ix4 s 0 0 u : S64x1x1x65.Idx) = ix4 ⟨t.val % 2 * 64 + s.val, by omega⟩
      ⟨t.val / 2, (idx t).2.2.2.2⟩ 0 u := by
    blk_ext [idx t]
  rw [ey]
  refine (pay3_at _ s u).trans ?_
  simp only [scores_at]
  rfl

/-- What the body stores in the label table's block is the table at the block's place. -/
theorem point3 (t : Fin cfg0.N) (y : S64x1x1x64.Idx) :
    k0_pay4 (iblk0 (V1 m ρ) c 0 t) (iblk0 (V1 m ρ) c 1 t) y
      = labelTab (acts m c) (labels m c) (((cfg0.win 3).blk t).view.emb y) := by
  obtain ⟨s, u, rfl⟩ : ∃ (s : Fin 64) (u : Fin 64), y = ix4 s 0 0 u := ⟨y 0, y 3, by
    funext a; apply Fin.ext
    have h1 : (y 1).val = 0 := by have := (y 1).isLt; simpa using this
    have h2 : (y 2).val = 0 := by have := (y 2).isLt; simpa using this
    match a with
    | ⟨0, _⟩ => rfl
    | ⟨1, _⟩ => exact h1
    | ⟨2, _⟩ => exact h2
    | ⟨3, _⟩ => rfl⟩
  have ey : ((cfg0.win 3).blk t).view.emb (ix4 s 0 0 u : S64x1x1x64.Idx) = ix4 ⟨t.val % 2 * 64 + s.val, by omega⟩
      ⟨t.val / 2, (idx t).2.2.2.2⟩ 0 u := by
    blk_ext [idx t]
  rw [ey]
  refine (pay4_at _ _ s u).trans ?_
  simp only [scores_at, labels_at]
  rfl

/-- The blank table after the region. -/
theorem arr2 : (dat0 (V1 m ρ) c).arrAt 2 cfg0.N = blankTab (acts m c) := by
  refine (dat0 (V1 m ρ) c).arrAt_eq_of_covers 2 _ (by decide +kernel) fun t hf y => ?_
  have h := point2 m ρ c t y
  blk_simp at h ⊢
  rw [after0_2]
  frame_out
  exact h

/-- The label table after the region. -/
theorem arr3 : (dat0 (V1 m ρ) c).arrAt 3 cfg0.N = labelTab (acts m c) (labels m c) := by
  refine (dat0 (V1 m ρ) c).arrAt_eq_of_covers 3 _ (by decide +kernel) fun t hf y => ?_
  have h := point3 m ρ c t y
  blk_simp at h ⊢
  rw [after0_3]
  frame_out
  exact h

/-- The indicator sum picks the labelled score. -/
theorem pick_eq (a : Fin 1024 → EReal) (n : Fin 1024) : pick a (BitVec.ofNat 32 n) = a n := by
  unfold pick
  rw [Finset.sum_eq_single n]
  · have e : IntOp.cmpi .eq (BitVec.ofNat 32 n) (BitVec.ofNat 32 n) = 1#1 := by
      show BitVec.ofBool (BitVec.ofNat 32 n == BitVec.ofNat 32 n) = 1#1
      rw [beq_self_eq_true]; rfl
    rw [e, show FloatOps.sitofp (F := Ideal) .f32 (BitVec.setWidth 32 1#1) = (((BitVec.setWidth 32 1#1).toInt : ℝ) : EReal) from rfl,
      show (BitVec.setWidth 32 1#1).toInt = 1 from by decide, Int.cast_one, EReal.coe_one, mul_one]
  · intro v _ hv
    have e : IntOp.cmpi .eq (BitVec.ofNat 32 v) (BitVec.ofNat 32 n) = 0#1 := by
      have hne : BitVec.ofNat 32 v ≠ BitVec.ofNat 32 n := by
        intro e
        have := congrArg BitVec.toNat e
        rw [BitVec.toNat_ofNat, BitVec.toNat_ofNat] at this
        exact hv (Fin.ext (by omega))
      show BitVec.ofBool (BitVec.ofNat 32 v == BitVec.ofNat 32 n) = 0#1
      rw [beq_eq_false_iff_ne.mpr hne]; rfl
    rw [e, show FloatOps.sitofp (F := Ideal) .f32 (BitVec.setWidth 32 0#1) = (((BitVec.setWidth 32 0#1).toInt : ℝ) : EReal) from rfl,
      show (BitVec.setWidth 32 0#1).toInt = 0 from by decide, Int.cast_zero, EReal.coe_zero, mul_zero]
  · intro h; exact absurd (Finset.mem_univ _) h

/-- The printed constant is a real number. -/
theorem four_eq : four = ((4 : ℝ) : EReal) := by
  show Ideal.ofBits .f32 0x40800000#32 = _
  simp [Ideal.ofBits, Ideal.ieee, -EReal.coe_mul]; norm_num

end Cert.Rnnt.K0

end
-- ==== Proof.K1Run.lean ====
/- The second region's run as a function of its four inputs: the two skewed tables the shifts leave, the loop's carried
   values as a recursion on the tables' rows, and the block it writes. -/
module

public import proofs.«01_k».proof.Proof.Gen.KernelIdeal.Frame
public import Idealize.ShloMosaic.Lib.VecWindow
public import Idealize.ShloMosaic.Lib.Pointwise

@[expose] public section

set_option maxRecDepth 16384

noncomputable section

namespace Cert.Rnnt.K1

open Cert.KernelIdeal Cert.KernelIdeal.Gen
open Idealize.ShloMosaic Idealize.ShloMosaic.TcCoe Idealize.ShloMosaic.Tactic

variable {F : FTy → Type} [FloatOps F] [Named F]

/-- The label positions along the lanes. -/
def lanes : IVec S1x8x65 32 := iota Kind.tc S1x8x65 32 [2] iota_S1x8x65_d2_w32

/-- The blank table's seven shifts, in order. -/
def bl0 (x0 : Vec F S128x8x1x65 .f32) : FVec F S192x8x65 .f32 := k1_pay12 x0
def bl1 (x0 : Vec F S128x8x1x65 .f32) : FVec F S192x8x65 .f32 := k1_pay13 (bl0 x0)
def bl2 (x0 : Vec F S128x8x1x65 .f32) : FVec F S192x8x65 .f32 := k1_pay16 lanes (bl1 x0) k1_pay14 (k1_pay15 (bl1 x0))
def bl3 (x0 : Vec F S128x8x1x65 .f32) : FVec F S192x8x65 .f32 := k1_pay17 lanes (bl2 x0)
def bl4 (x0 : Vec F S128x8x1x65 .f32) : FVec F S192x8x65 .f32 := k1_pay19 (k1_pay18 lanes (bl3 x0))
def bl5 (x0 : Vec F S128x8x1x65 .f32) : FVec F S192x8x65 .f32 := k1_pay20 lanes (bl4 x0)
def bl6 (x0 : Vec F S128x8x1x65 .f32) : FVec F S192x8x65 .f32 := k1_pay21 lanes (bl5 x0)
def bl7 (x0 : Vec F S128x8x1x65 .f32) : FVec F S192x8x65 .f32 := k1_pay24 lanes (bl6 x0) k1_pay22 (k1_pay23 (bl6 x0))
/-- The skewed blank table, anti-diagonals first. -/
def blT (x0 : Vec F S128x8x1x65 .f32) : FVec F S192x65x8 .f32 := k1_pay36 (bl7 x0)

/-- The label table's seven shifts, in order. -/
def em0 (x1 : Vec F S128x8x1x64 .f32) : FVec F S192x8x65 .f32 := k1_pay26 k1_pay11 x1
def em1 (x1 : Vec F S128x8x1x64 .f32) : FVec F S192x8x65 .f32 := k1_pay27 lanes (em0 x1)
def em2 (x1 : Vec F S128x8x1x64 .f32) : FVec F S192x8x65 .f32 := k1_pay28 (k1_pay25 lanes) (em1 x1)
def em3 (x1 : Vec F S128x8x1x64 .f32) : FVec F S192x8x65 .f32 := k1_pay29 (k1_pay25 lanes) (em2 x1)
def em4 (x1 : Vec F S128x8x1x64 .f32) : FVec F S192x8x65 .f32 :=
  k1_pay32 (em3 x1) (k1_pay30 (em3 x1)) (k1_pay31 (k1_pay25 lanes))
def em5 (x1 : Vec F S128x8x1x64 .f32) : FVec F S192x8x65 .f32 := k1_pay33 (k1_pay25 lanes) (em4 x1)
def em6 (x1 : Vec F S128x8x1x64 .f32) : FVec F S192x8x65 .f32 := k1_pay34 (k1_pay25 lanes) (em5 x1)
def em7 (x1 : Vec F S128x8x1x64 .f32) : FVec F S192x8x65 .f32 := k1_pay35 (k1_pay25 lanes) (em6 x1)
/-- The skewed label table, anti-diagonals first. -/
def emT (x1 : Vec F S128x8x1x64 .f32) : FVec F S192x65x8 .f32 := k1_pay37 (em7 x1)

/-- Row `d` of a skewed table (its last row past the end). -/
def rowAt (X : FVec F S192x65x8 .f32) (d : ℕ) : FVec F S1x65x8 .f32 :=
  fun j => X (ix3 ⟨min d 191, by omega⟩ (j 1) (j 2))

/-- The loop's carried values before trip `k`: the scores of anti-diagonal `k`, the scores caught so far, and `k`. -/
def carried (D : IVec S65x8 32) (P Q : FVec F S192x65x8 .f32) :
    ℕ → FVec F S65x8 .f32 × FVec F S65x8 .f32 × IVec S65x8 32
  | 0 => (k1_pay1 (iota Kind.tc S65x8 32 [0] iota_S65x8_d0_w32) 0#32, k1_pay2, k1_pay3)
  | k + 1 =>
    let a := carried D P Q k
    (k1_pay5 a.1 (rowAt P k) (rowAt Q k), k1_pay6 D a.1 a.2.1 a.2.2 (rowAt P k), k1_pay7 a.2.2)

/-- The anti-diagonal each batch entry ends on, along the lanes. -/
def ends (x2 x3 : Vec F S8x1 .i32) : IVec S65x8 32 := k1_pay38 (k1_pay10 (F := F) x3 x2)

/-- The block the region writes. -/
def block (x0 : Vec F S128x8x1x65 .f32) (x1 : Vec F S128x8x1x64 .f32) (x2 x3 : Vec F S8x1 .i32) : FVec F S1x1 .f32 :=
  k1_pay8 (ends x2 x3) (k1_pay39 (k1_pay9 (F := F) x3)) (carried (ends x2 x3) (blT x0) (emT x1) 191).1
    (carried (ends x2 x3) (blT x0) (emT x1) 191).2.1 (carried (ends x2 x3) (blT x0) (emT x1) 191).2.2 (rowAt (blT x0) 191)

section Run

variable (c : Dev nD)
  (arg0 : Memref sig .tc .vmem S128x8x1x65 .f32) (harg0 : arg0.IsWhole)
  (arg1 : Memref sig .tc .vmem S128x8x1x64 .f32) (harg1 : arg1.IsWhole)
  (arg2 : Memref sig .tc .vmem S8x1 .i32) (harg2 : arg2.IsWhole)
  (arg3 : Memref sig .tc .vmem S8x1 .i32) (harg3 : arg3.IsWhole)
  (arg4 : Memref sig .tc .vmem S1x1 .f32) (harg4 : arg4.IsWhole)
  (arg5 : Memref sig .tc .vmem S192x8x65 .f32) (harg5 : arg5.IsWhole)
  (arg6 : Memref sig .tc .vmem S192x8x65 .f32) (harg6 : arg6.IsWhole)
  (arg7 : Memref sig .tc .vmem S192x8x65 .f32) (harg7 : arg7.IsWhole)
  (arg8 : Memref sig .tc .vmem S192x65x8 .f32) (harg8 : arg8.IsWhole)
  (arg9 : Memref sig .tc .vmem S192x65x8 .f32) (harg9 : arg9.IsWhole)
  (x0 : Vec F S128x8x1x65 .f32) (x1 : Vec F S128x8x1x64 .f32) (x2 x3 : Vec F S8x1 .i32)

/-- The blank table as read before its first shift. -/
theorem v15_eq : kernelRun1_A.sl.v15 c arg0 harg0 arg7 x0 = bl0 x0 := by
  rw [kernelRun1_A.sl.v15, kernelRun1_A.sl.HS2_1, View.readCov_cons_toLoadRect]
  exact congrArg k1_pay12 ((View.readAt_full arg0.view _ _).trans (harg0.read_unread x0))

/-- The blank table as read after its first shift. -/
theorem v29_eq : kernelRun1_A.sl.v29 c arg0 harg0 arg5 arg7 x0 = bl1 x0 := by
  rw [kernelRun1_A.sl.v29, kernelRun1_A.sl.HS0_1, View.readCov_cons_toLoadRect, v15_eq, bl1]

/-- The blank table as read after its second shift. -/
theorem v43_eq : kernelRun1_A.sl.v43 c arg0 harg0 arg5 arg7 x0 = bl2 x0 := by
  rw [kernelRun1_A.sl.v43, kernelRun1_A.sl.HS2_2, View.readCov_cons_toLoadRect, kernelRun1_A.sl.r_2, v29_eq]; rfl

/-- The blank table as read after its third shift. -/
theorem v57_eq : kernelRun1_A.sl.v57 c arg0 harg0 arg5 arg7 x0 = bl3 x0 := by
  rw [kernelRun1_A.sl.v57, kernelRun1_A.sl.HS0_2, View.readCov_cons_toLoadRect, v43_eq]; rfl

/-- The blank table as read after its fourth shift. -/
theorem v71_eq : kernelRun1_A.sl.v71 c arg0 harg0 arg5 arg7 x0 = bl4 x0 := by
  rw [kernelRun1_A.sl.v71, kernelRun1_A.sl.HS2_3, View.readCov_cons_toLoadRect, kernelRun1_A.sl.r_3, v57_eq]; rfl

/-- The blank table as read after its fifth shift. -/
theorem v85_eq : kernelRun1_A.sl.v85 c arg0 harg0 arg5 arg7 x0 = bl5 x0 := by
  rw [kernelRun1_A.sl.v85, kernelRun1_A.sl.HS0_3, View.readCov_cons_toLoadRect, v71_eq]; rfl

/-- The blank table as read after its sixth shift. -/
theorem v99_eq : kernelRun1_A.sl.v99 c arg0 harg0 arg5 arg7 x0 = bl6 x0 := by
  rw [kernelRun1_A.sl.v99, kernelRun1_A.sl.HS2_4, View.readCov_cons_toLoadRect, v85_eq]; rfl

/-- The blank table as read after its seventh shift. -/
theorem v221_eq : kernelRun1_A.sl.v221 c arg0 harg0 arg5 arg7 x0 = bl7 x0 := by
  rw [kernelRun1_A.sl.v221, kernelRun1_A.sl.HS0_4, View.readCov_cons_toLoadRect, kernelRun1_A.sl.r_4, v99_eq]; rfl

/-- The label table as read before its first shift. -/
theorem v123_eq : kernelRun1_A.sl.v123 c arg0 harg0 arg1 harg1 arg5 arg7 x0 x1 = em0 x1 := by
  rw [kernelRun1_A.sl.v123, kernelRun1_A.sl.HS2_5, View.readCov_cons_toLoadRect]
  exact congrArg (k1_pay26 k1_pay11) ((View.readAt_full arg1.view _ _).trans (harg1.read_unread x1))

/-- The label table as read after its first shift. -/
theorem v137_eq : kernelRun1_A.sl.v137 c arg0 harg0 arg1 harg1 arg5 arg6 arg7 x0 x1 = em1 x1 := by
  rw [kernelRun1_A.sl.v137, kernelRun1_A.sl.HS1_1, View.readCov_cons_toLoadRect, kernelRun1_A.sl.r_5, v123_eq]; rfl

/-- The label table as read after its second shift. -/
theorem v151_eq : kernelRun1_A.sl.v151 c arg0 harg0 arg1 harg1 arg5 arg6 arg7 x0 x1 = em2 x1 := by
  rw [kernelRun1_A.sl.v151, kernelRun1_A.sl.HS2_6, View.readCov_cons_toLoadRect, v137_eq]; rfl

/-- The label table as read after its third shift. -/
theorem v165_eq : kernelRun1_A.sl.v165 c arg0 harg0 arg1 harg1 arg5 arg6 arg7 x0 x1 = em3 x1 := by
  rw [kernelRun1_A.sl.v165, kernelRun1_A.sl.HS1_2, View.readCov_cons_toLoadRect, v151_eq]; rfl

/-- The label table as read after its fourth shift. -/
theorem v179_eq : kernelRun1_A.sl.v179 c arg0 harg0 arg1 harg1 arg5 arg6 arg7 x0 x1 = em4 x1 := by
  rw [kernelRun1_A.sl.v179, kernelRun1_A.sl.HS2_7, View.readCov_cons_toLoadRect, kernelRun1_A.sl.r_6, v165_eq]; rfl

/-- The label table as read after its fifth shift. -/
theorem v193_eq : kernelRun1_A.sl.v193 c arg0 harg0 arg1 harg1 arg5 arg6 arg7 x0 x1 = em5 x1 := by
  rw [kernelRun1_A.sl.v193, kernelRun1_A.sl.HS1_3, View.readCov_cons_toLoadRect, v179_eq]; rfl

/-- The label table as read after its sixth shift. -/
theorem v207_eq : kernelRun1_A.sl.v207 c arg0 harg0 arg1 harg1 arg5 arg6 arg7 x0 x1 = em6 x1 := by
  rw [kernelRun1_A.sl.v207, kernelRun1_A.sl.HS2_8, View.readCov_cons_toLoadRect, kernelRun1_A.sl.r_7, v193_eq]; rfl

/-- The label table as read after its seventh shift. -/
theorem v226_eq : kernelRun1_A.sl.v226 c arg0 harg0 arg1 harg1 arg5 arg6 arg7 x0 x1 = em7 x1 := by
  rw [kernelRun1_A.sl.v226, kernelRun1_A.sl.HS1_4, View.readCov_cons_toLoadRect, v207_eq]; rfl

/-- The rectangle of row `d` places an index of a row at that row. -/
theorem row_idx (d : ℕ) (hd : d < 192) (off : Fin 3 → ℕ) (ho : off = ![d, 0, 0])
    (inb : ∀ a, off a + S1x65x8.size a ≤ S192x65x8.size a) (j : S1x65x8.Idx) :
    (Rect.unit (s := S192x65x8) off S1x65x8.size inb).idx j = ix3 ⟨min d 191, by omega⟩ (j 1) (j 2) := by
  subst ho
  funext a
  apply Fin.ext
  have h0 : (j 0).val = 0 := by have := (j 0).isLt; simpa using this
  match a with
  | ⟨0, _⟩ => show d + 1 * (j 0).val = min d 191; omega
  | ⟨1, _⟩ => show 0 + 1 * (j 1).val = (j 1).val; omega
  | ⟨2, _⟩ => show 0 + 1 * (j 2).val = (j 2).val; omega

/-- A load of row `d` of a table stored whole. -/
theorem load_row (v : View sig .tc .vmem S192x65x8 .f32) (f : v.ty.Contents (Elt F)) (w : FVec F S192x65x8 .f32)
    (d : ℕ) (hd : d < 192) (off : Fin 3 → ℕ) (ho : off = ![d, 0, 0])
    (inb : ∀ a, off a + S1x65x8.size a ≤ S192x65x8.size a) :
    v.readAt (Elt F) (Rect.unit (s := S192x65x8) off S1x65x8.size inb).toLoadRect
        (v.writes (Elt F) f [⟨Rect.unit ![0, 0, 0] S192x65x8.size inb_S192x65x8_S192x65x8_0_0_0, w⟩])
      = rowAt w d := by
  have e := View.read_writes_full v f inb_S192x65x8_S192x65x8_0_0_0 w []
  funext j
  show v.read (Elt F) _ ((Rect.unit (s := S192x65x8) off S1x65x8.size inb).idx j) = _
  rw [e, row_idx d hd off ho]; rfl

/-- The loop makes 191 trips. -/
theorem trips_eq : k1_t1_loop.trips = 191 := by decide +kernel

/-- One trip of the loop, on the two skewed tables. -/
theorem trip_eq (D : IVec S65x8 32) (k : Fin k1_t1_loop.trips)
    (acc : FVec F S65x8 .f32 × FVec F S65x8 .f32 × IVec S65x8 32) :
    tripR_k1_t1 (F := F) Variants.none c none arg0 harg0 arg1 harg1 arg2 harg2 arg3 harg3 arg4 harg4 arg5 harg5 arg6 harg6 arg7 harg7 arg8 harg8 arg9 harg9 D
      (arg8.view.writes (Elt F) arg8.view.junk (kernelRun1_A.sl.HS3_1 c arg0 harg0 arg5 arg7 x0))
      (arg9.view.writes (Elt F) arg9.view.junk (kernelRun1_A.sl.HS4_1 c arg0 harg0 arg1 harg1 arg5 arg6 arg7 x0 x1)) k acc
    = (k1_pay5 acc.1 (rowAt (blT x0) k) (rowAt (emT x1) k), k1_pay6 D acc.1 acc.2.1 acc.2.2 (rowAt (blT x0) k),
        k1_pay7 acc.2.2) := by
  have hk : k.val < 192 := by have := k.isLt; have := trips_eq; omega
  unfold tripR_k1_t1 trip_k1_t1
  rw [kernelRun1_A.sl.HS3_1, kernelRun1_A.sl.HS4_1, v221_eq, v226_eq]
  have e8 := load_row arg8.view arg8.view.junk (blT x0) k hk (k1_off1 k) (k1_off1_eq k) (k1_off1_inb k)
  have e9 := load_row arg9.view arg9.view.junk (emT x1) k hk (k1_off1 k) (k1_off1_eq k) (k1_off1_inb k)
  rw [← e8, ← e9]
  rfl

/-- The loop's state is the recursion on the tables' rows. -/
theorem state_eq (D : IVec S65x8 32) (k : ℕ) (hk : k ≤ 191) :
    st_k1_t1 (F := F) Variants.none c none arg0 harg0 arg1 harg1 arg2 harg2 arg3 harg3 arg4 harg4 arg5 harg5 arg6 harg6 arg7 harg7 arg8 harg8 arg9 harg9 D
      (arg8.view.writes (Elt F) arg8.view.junk (kernelRun1_A.sl.HS3_1 c arg0 harg0 arg5 arg7 x0))
      (arg9.view.writes (Elt F) arg9.view.junk (kernelRun1_A.sl.HS4_1 c arg0 harg0 arg1 harg1 arg5 arg6 arg7 x0 x1))
      (k1_pay1 kernelRun1_A.sl.v231 0#32, k1_pay2, k1_pay3) k
    = carried D (blT x0) (emT x1) k := by
  induction k with
  | zero => rfl
  | succ k ih =>
    have e := st_k1_t1_succ (F := F) Variants.none c none arg0 harg0 arg1 harg1 arg2 harg2 arg3 harg3 arg4 harg4 arg5 harg5 arg6 harg6 arg7 harg7 arg8 harg8 arg9 harg9 D
      (arg8.view.writes (Elt F) arg8.view.junk (kernelRun1_A.sl.HS3_1 c arg0 harg0 arg5 arg7 x0))
      (arg9.view.writes (Elt F) arg9.view.junk (kernelRun1_A.sl.HS4_1 c arg0 harg0 arg1 harg1 arg5 arg6 arg7 x0 x1))
      (k1_pay1 kernelRun1_A.sl.v231 0#32, k1_pay2, k1_pay3) ⟨k, by rw [trips_eq]; omega⟩
    refine e.trans ?_
    rw [trip_eq, ih (by omega)]
    rfl

/-- What the region's body leaves in its output block. -/
theorem out_eq :
    out1_A_4 c arg0 harg0 arg1 harg1 arg2 harg2 arg3 harg3 arg4 harg4 arg5 harg5 arg6 harg6 arg7 harg7 arg8 harg8 arg9 harg9 x0 x1 x2 x3
    = block x0 x1 x2 x3 := by
  have e251 : kernelRun1_A.sl.v251 c arg0 harg0 arg5 arg7 arg8 x0 = rowAt (blT x0) 191 := by
    rw [kernelRun1_A.sl.v251, kernelRun1_A.sl.HS3_1, v221_eq]
    exact load_row arg8.view arg8.view.junk (blT x0) 191 (by omega) _ rfl _
  have e8 : kernelRun1_A.sl.r_8 c arg2 harg2 arg3 harg3 x2 x3 = ends x2 x3 := by
    rw [kernelRun1_A.sl.r_8, kernelRun1_A.sl.r_1]
    exact congrArg k1_pay38 (congrArg₂ (k1_pay10 (F := F)) ((View.readAt_full arg3.view _ _).trans (harg3.read_unread x3))
      ((View.readAt_full arg2.view _ _).trans (harg2.read_unread x2)))
  have e9 : (kernelRun1_A.sl.r_9 c arg3 harg3 x3 : FVec F S65x8 .f32) = k1_pay39 (k1_pay9 (F := F) x3) := by
    rw [kernelRun1_A.sl.r_9, kernelRun1_A.sl.r]
    exact congrArg (fun z => k1_pay39 (k1_pay9 (F := F) z)) ((View.readAt_full arg3.view _ _).trans (harg3.read_unread x3))
  have es := state_eq c arg0 harg0 arg1 harg1 arg2 harg2 arg3 harg3 arg4 harg4 arg5 harg5 arg6 harg6 arg7 harg7 arg8 harg8 arg9 harg9
    x0 x1 (ends x2 x3) 191 le_rfl
  unfold out1_A_4 kernelRun1_A
  dsimp only
  refine (View.read_writes_full _ _ _ _ _).trans ?_
  rw [e8, e9, e251, block, show Scf.trips 1#32 (Scalar.addi 1#32 191#32) 1#32 = 191 from by decide +kernel, es]

end Run

end Cert.Rnnt.K1

end
-- ==== Proof.K1Shift.lean ====
/- The seven shifts of each table read at one entry: after all of them column `u` is delayed by `u` (by `u - 1` for the
   label table), the rows before it at `-∞`. -/
module

public import proofs.«01_k».proof.Proof.K1Run
public import proofs.«01_k».proof.Proof.Lattice

@[expose] public section

set_option maxRecDepth 16384

noncomputable section

namespace Cert.Rnnt.K1

open Cert.KernelIdeal Cert.KernelIdeal.Gen
open Idealize.ShloMosaic Idealize.ShloMosaic.TcCoe Idealize.ShloMosaic.Tactic

/-- The mask reads as `-∞`. -/
theorem mask_eq : Named.named (F := Ideal) κ (φ := .f32) "mask" 4048155338#32 = (⊥ : EReal) := rfl

/-- A column delayed by `k`, `-∞` before. -/
def skew (k : ℕ) (g : ℕ → EReal) (d : ℕ) : EReal := if k ≤ d then g (d - k) else ⊥

/-- One conditional shift by `s` at an entry: where bit `s` of `W` is set, the entry `s` rows up (`-∞` before the first). -/
def shifted (W : BitVec 32) (s : ℕ) (x : FVec Ideal S192x8x65 .f32) (d : Fin 192) (b : Fin 8) (u : Fin 65) : EReal :=
  Scalar.select (IntOp.cmpi .ne (IntOp.andi W (BitVec.ofNat 32 s)) 0#32)
    (if h : d.val < s then (⊥ : EReal) else x (ix3 ⟨d.val - s, by omega⟩ b u)) (x (ix3 d b u))

/-- How much a conditional shift by `s` delays. -/
def bit (W : BitVec 32) (s : ℕ) : ℕ := if W &&& BitVec.ofNat 32 s = 0#32 then 0 else s

/-- A conditional shift of a table whose column `u` is delayed by `k` delays it further by the bit taken. -/
theorem shifted_skew (W : BitVec 32) (s k : ℕ) (x : FVec Ideal S192x8x65 .f32) (g : ℕ → EReal) (b : Fin 8) (u : Fin 65)
    (hx : ∀ d : Fin 192, x (ix3 d b u) = skew k g d) (d : Fin 192) :
    shifted W s x d b u = skew (k + bit W s) g d := by
  unfold shifted bit
  rw [hx d]
  by_cases hW : W &&& BitVec.ofNat 32 s = 0#32
  · have : IntOp.cmpi .ne (IntOp.andi W (BitVec.ofNat 32 s)) 0#32 = 0#1 := by
      simp [IntOp.cmpi, IntOp.andi, hW]
    rw [this, if_pos hW]; rfl
  · have : IntOp.cmpi .ne (IntOp.andi W (BitVec.ofNat 32 s)) 0#32 = 1#1 := by
      have h : (W &&& BitVec.ofNat 32 s != 0#32) = true := bne_iff_ne.mpr hW
      show BitVec.ofBool (W &&& BitVec.ofNat 32 s != 0#32) = 1#1
      rw [h]; rfl
    rw [this, if_neg hW]
    show (if h : d.val < s then (⊥ : EReal) else x (ix3 ⟨d.val - s, by omega⟩ b u)) = _
    by_cases hd : d.val < s
    · rw [dif_pos hd, skew, if_neg (by omega)]
    · rw [dif_neg hd, hx, skew, skew]
      by_cases hk : k + s ≤ d.val
      · rw [if_pos (by show k ≤ d.val - s; omega), if_pos hk]
        exact congrArg g (by show d.val - s - k = _; omega)
      · rw [if_neg (by show ¬ k ≤ d.val - s; omega), if_neg hk]

/-- The blank scores of batch entry `b` as a table of time and position, `-∞` outside. -/
def lbOf (x0 : Vec Ideal S128x8x1x65 .f32) (b : Fin 8) (t u : ℕ) : EReal :=
  if h : t < 128 ∧ u < 65 then x0 (ix4 ⟨t, h.1⟩ b 0 ⟨u, h.2⟩) else ⊥

/-- The label scores of batch entry `b` as a table of time and position, `-∞` outside. -/
def llOf (x1 : Vec Ideal S128x8x1x64 .f32) (b : Fin 8) (t u : ℕ) : EReal :=
  if h : t < 128 ∧ u < 64 then x1 (ix4 ⟨t, h.1⟩ b 0 ⟨u, h.2⟩) else ⊥

/-- The column the label table starts from: the label scores one position to the left, `-∞` in the first column. -/
def leftOf (x1 : Vec Ideal S128x8x1x64 .f32) (b : Fin 8) (u t : ℕ) : EReal := if u = 0 then ⊥ else llOf x1 b t (u - 1)

variable (x0 : Vec Ideal S128x8x1x65 .f32) (x1 : Vec Ideal S128x8x1x64 .f32) (d : Fin 192) (b : Fin 8) (u : Fin 65)

/-! Each shift reads as the conditional shift of the table before it. -/

/-- The shift of the blank table by 1, at an entry. -/
theorem bl1_at : bl1 x0 (ix3 d b u) = shifted (BitVec.ofNat 32 u) 1 (bl0 x0) d b u := by
  unfold bl1 shifted; generalize bl0 x0 = x; pointwise! [k1_pay13]
/-- The shift of the blank table by 2, at an entry. -/
theorem bl2_at : bl2 x0 (ix3 d b u) = shifted (BitVec.ofNat 32 u) 2 (bl1 x0) d b u := by
  unfold bl2 shifted; generalize bl1 x0 = x; pointwise! [k1_pay16, k1_pay14, k1_pay15, lanes]
/-- The shift of the blank table by 4, at an entry. -/
theorem bl3_at : bl3 x0 (ix3 d b u) = shifted (BitVec.ofNat 32 u) 4 (bl2 x0) d b u := by
  unfold bl3 shifted; generalize bl2 x0 = x; pointwise! [k1_pay17, lanes]
/-- The shift of the blank table by 8, at an entry. -/
theorem bl4_at : bl4 x0 (ix3 d b u) = shifted (BitVec.ofNat 32 u) 8 (bl3 x0) d b u := by
  unfold bl4 shifted; generalize bl3 x0 = x; pointwise! [k1_pay19, k1_pay18, lanes]
/-- The shift of the blank table by 16, at an entry. -/
theorem bl5_at : bl5 x0 (ix3 d b u) = shifted (BitVec.ofNat 32 u) 16 (bl4 x0) d b u := by
  unfold bl5 shifted; generalize bl4 x0 = x; pointwise! [k1_pay20, lanes]
/-- The shift of the blank table by 32, at an entry. -/
theorem bl6_at : bl6 x0 (ix3 d b u) = shifted (BitVec.ofNat 32 u) 32 (bl5 x0) d b u := by
  unfold bl6 shifted; generalize bl5 x0 = x; pointwise! [k1_pay21, lanes]
/-- The shift of the blank table by 64, at an entry. -/
theorem bl7_at : bl7 x0 (ix3 d b u) = shifted (BitVec.ofNat 32 u) 64 (bl6 x0) d b u := by
  unfold bl7 shifted; generalize bl6 x0 = x; pointwise! [k1_pay24, k1_pay22, k1_pay23, lanes]
/-- The shift of the label table by 1, at an entry. -/
theorem em1_at : em1 x1 (ix3 d b u) = shifted (BitVec.ofNat 32 u - 1#32) 1 (em0 x1) d b u := by
  unfold em1 shifted; generalize em0 x1 = x; pointwise! [k1_pay27, k1_pay25, lanes]
/-- The shift of the label table by 2, at an entry. -/
theorem em2_at : em2 x1 (ix3 d b u) = shifted (BitVec.ofNat 32 u - 1#32) 2 (em1 x1) d b u := by
  unfold em2 shifted; generalize em1 x1 = x; pointwise! [k1_pay28, k1_pay25, lanes]
/-- The shift of the label table by 4, at an entry. -/
theorem em3_at : em3 x1 (ix3 d b u) = shifted (BitVec.ofNat 32 u - 1#32) 4 (em2 x1) d b u := by
  unfold em3 shifted; generalize em2 x1 = x; pointwise! [k1_pay29, k1_pay25, lanes]
/-- The shift of the label table by 8, at an entry. -/
theorem em4_at : em4 x1 (ix3 d b u) = shifted (BitVec.ofNat 32 u - 1#32) 8 (em3 x1) d b u := by
  unfold em4 shifted; generalize em3 x1 = x; pointwise! [k1_pay32, k1_pay30, k1_pay31, k1_pay25, lanes]
/-- The shift of the label table by 16, at an entry. -/
theorem em5_at : em5 x1 (ix3 d b u) = shifted (BitVec.ofNat 32 u - 1#32) 16 (em4 x1) d b u := by
  unfold em5 shifted; generalize em4 x1 = x; pointwise! [k1_pay33, k1_pay25, lanes]
/-- The shift of the label table by 32, at an entry. -/
theorem em6_at : em6 x1 (ix3 d b u) = shifted (BitVec.ofNat 32 u - 1#32) 32 (em5 x1) d b u := by
  unfold em6 shifted; generalize em5 x1 = x; pointwise! [k1_pay34, k1_pay25, lanes]
/-- The shift of the label table by 64, at an entry. -/
theorem em7_at : em7 x1 (ix3 d b u) = shifted (BitVec.ofNat 32 u - 1#32) 64 (em6 x1) d b u := by
  unfold em7 shifted; generalize em6 x1 = x; pointwise! [k1_pay35, k1_pay25, lanes]

/-- The blank table before any shift. -/
theorem bl0_at : bl0 x0 (ix3 d b u) = skew 0 (fun t => lbOf x0 b t u) d := by
  have e : bl0 x0 (ix3 d b u) = if h : d.val < 128 then x0 (ix4 ⟨d.val, h⟩ b 0 u) else (⊥ : EReal) := by
    unfold bl0; pointwise! [k1_pay12]
  rw [e, skew, if_pos (Nat.zero_le _), lbOf]
  by_cases h : d.val < 128
  · rw [dif_pos h, dif_pos ⟨by omega, u.isLt⟩]; rfl
  · rw [dif_neg h, dif_neg (by omega)]

/-- The label table before any shift. -/
theorem em0_at : em0 x1 (ix3 d b u) = skew 0 (leftOf x1 b u) d := by
  have e : em0 x1 (ix3 d b u) = if h : d.val < 128 then (if h' : u.val < 1 then (⊥ : EReal)
      else x1 (ix4 ⟨d.val, h⟩ b 0 ⟨u.val - 1, by omega⟩)) else ⊥ := by
    unfold em0; pointwise! [k1_pay26, k1_pay11]
  rw [e, skew, if_pos (Nat.zero_le _), leftOf, llOf]
  by_cases h : d.val < 128
  · rw [dif_pos h]
    by_cases h' : u.val < 1
    · rw [dif_pos h', if_pos (by omega)]
    · rw [dif_neg h', if_neg (by omega), dif_pos ⟨by omega, by omega⟩]; rfl
  · rw [dif_neg h, dif_neg (by omega)]; simp

/-- The delay of all seven shifts together. -/
def delay (W : BitVec 32) : ℕ := 0 + bit W 1 + bit W 2 + bit W 4 + bit W 8 + bit W 16 + bit W 32 + bit W 64

/-- The shifts by the bits of `u` delay by `u` in all. -/
theorem delay_pos : ∀ u : Fin 65, delay (BitVec.ofNat 32 u) = u := by decide +kernel
/-- The shifts by the bits of `u - 1` delay by `u - 1` in all, past the first column. -/
theorem delay_pred : ∀ u : Fin 65, u.val ≠ 0 → delay (BitVec.ofNat 32 u - 1#32) = u - 1 := by decide +kernel

/-- The skewed blank table: column `u` delayed by `u`. -/
theorem blT_at : blT x0 (ix3 d u b) = skew u (fun t => lbOf x0 b t u) d := by
  have e : blT x0 (ix3 d u b) = bl7 x0 (ix3 d b u) := by
    unfold blT; generalize bl7 x0 = x; pointwise! [k1_pay36]
  have h := fun d => (bl1_at x0 d b u).trans (shifted_skew _ 1 _ _ _ b u (fun d => bl0_at x0 d b u) d)
  have h := fun d => (bl2_at x0 d b u).trans (shifted_skew _ 2 _ _ _ b u h d)
  have h := fun d => (bl3_at x0 d b u).trans (shifted_skew _ 4 _ _ _ b u h d)
  have h := fun d => (bl4_at x0 d b u).trans (shifted_skew _ 8 _ _ _ b u h d)
  have h := fun d => (bl5_at x0 d b u).trans (shifted_skew _ 16 _ _ _ b u h d)
  have h := fun d => (bl6_at x0 d b u).trans (shifted_skew _ 32 _ _ _ b u h d)
  have h := (bl7_at x0 d b u).trans (shifted_skew _ 64 _ _ _ b u h d)
  rw [e, h]
  exact congrArg (fun k => skew k _ _) (delay_pos u)

/-- The skewed label table: column `u` delayed by `u - 1`. -/
theorem emT_at : emT x1 (ix3 d u b) = skew (u - 1) (leftOf x1 b u) d := by
  have e : emT x1 (ix3 d u b) = em7 x1 (ix3 d b u) := by
    unfold emT; generalize em7 x1 = x; pointwise! [k1_pay37]
  have h := fun d => (em1_at x1 d b u).trans (shifted_skew _ 1 _ _ _ b u (fun d => em0_at x1 d b u) d)
  have h := fun d => (em2_at x1 d b u).trans (shifted_skew _ 2 _ _ _ b u h d)
  have h := fun d => (em3_at x1 d b u).trans (shifted_skew _ 4 _ _ _ b u h d)
  have h := fun d => (em4_at x1 d b u).trans (shifted_skew _ 8 _ _ _ b u h d)
  have h := fun d => (em5_at x1 d b u).trans (shifted_skew _ 16 _ _ _ b u h d)
  have h := fun d => (em6_at x1 d b u).trans (shifted_skew _ 32 _ _ _ b u h d)
  have h := (em7_at x1 d b u).trans (shifted_skew _ 64 _ _ _ b u h d)
  rw [e, h]
  by_cases hu : u.val = 0
  · have : leftOf x1 b u = fun _ => ⊥ := by funext t; rw [leftOf, if_pos hu]
    rw [this, skew, skew, ite_self, ite_self]
  · exact congrArg (fun k => skew k _ _) (delay_pred u hu)

end Cert.Rnnt.K1

end
-- ==== Proof.K1Value.lean ====
/- The anti-diagonal recursion of the second region is the lattice of path scores, and the block it writes is minus the sum
   over the batch of the scores of the full paths. -/
module

public import proofs.«01_k».proof.Proof.K1Shift

@[expose] public section

set_option maxRecDepth 16384

noncomputable section

namespace Cert.Rnnt.K1

open Cert.KernelIdeal Cert.KernelIdeal.Gen
open Idealize.ShloMosaic Idealize.ShloMosaic.TcCoe Idealize.ShloMosaic.Tactic

/-- Entry `u` of anti-diagonal `k` of the lattice, `-∞` past its end. -/
def diag (lb ll : ℕ → ℕ → EReal) (k u : ℕ) : EReal := if u ≤ k then alpha lb ll (k - u) u else ⊥

/-- One anti-diagonal from the one before it. -/
theorem diag_succ (lb ll : ℕ → ℕ → EReal) (k u : ℕ) :
    lae (diag lb ll k u + skew u (fun t => lb t u) k)
      ((if u < 1 then ⊥ else diag lb ll k (u - 1)) + skew (u - 1) (fun t => if u = 0 then ⊥ else ll t (u - 1)) k)
    = diag lb ll (k + 1) u := by
  unfold diag skew
  cases u with
  | zero =>
    rw [if_pos (Nat.zero_le _), if_pos (Nat.zero_le _), if_pos (by omega), if_pos (Nat.zero_le _), EReal.bot_add]
    show lae (alpha lb ll k 0 + lb k 0) ⊥ = alpha lb ll (k + 1) 0
    rw [alpha]
  | succ u =>
    simp only [Nat.add_sub_cancel, if_neg (show ¬ u + 1 < 1 by omega), if_neg (show u + 1 ≠ 0 by omega)]
    by_cases h1 : u + 1 ≤ k
    · rw [if_pos h1, if_pos h1, if_pos (by omega), if_pos (by omega), if_pos (by omega)]
      have e1 : k + 1 - (u + 1) = (k - (u + 1)) + 1 := by omega
      have e2 : k - u = (k - (u + 1)) + 1 := by omega
      rw [e1, e2, alpha]
    · rw [if_neg h1, if_neg h1, EReal.bot_add]
      by_cases h2 : u ≤ k
      · have e : u = k := by omega
        subst e
        rw [if_pos le_rfl, if_pos le_rfl, if_pos le_rfl, Nat.sub_self, Nat.sub_self, alpha]
      · rw [if_neg h2, if_neg h2, if_neg (by omega), EReal.bot_add, lae_bot_bot]

section Loop

variable (D : IVec S65x8 32) (P Q : FVec Ideal S192x65x8 .f32) (lb ll : Fin 8 → ℕ → ℕ → EReal)
  (hP : ∀ d u b, P (ix3 d u b) = skew u (fun t => lb b t u) d)
  (hQ : ∀ d u b, Q (ix3 d u b) = skew (u - 1) (fun t => if u.val = 0 then ⊥ else ll b t (u - 1)) d)

/-- A row of a skewed table at an entry. -/
theorem rowAt_at (X : FVec Ideal S192x65x8 .f32) (k : ℕ) (hk : k ≤ 191) (u : Fin 65) (b : Fin 8) :
    rowAt X k (ix3 0 u b) = X (ix3 ⟨k, by omega⟩ u b) := by
  have e : min k 191 = k := by omega
  exact congrArg (fun z => X (ix3 z u b)) (Fin.ext e)

/-- The next anti-diagonal at an entry. -/
theorem pay5_at (a : FVec Ideal S65x8 .f32) (x y : FVec Ideal S1x65x8 .f32) (u : Fin 65) (b : Fin 8) :
    k1_pay5 a x y (ix2 u b) = lae (a (ix2 u b) + x (ix3 0 u b))
      ((if h : u.val < 1 then (⊥ : EReal) else a (ix2 ⟨u.val - 1, by omega⟩ b)) + y (ix3 0 u b)) := by
  unfold lae; pointwise! [k1_pay5, k1_pay4]

/-- The scores caught so far at an entry: the one of this trip where the batch entry ends on it. -/
theorem pay6_at (a f : FVec Ideal S65x8 .f32) (n : IVec S65x8 32) (x : FVec Ideal S1x65x8 .f32) (u : Fin 65) (b : Fin 8) :
    k1_pay6 D a f n x (ix2 u b)
      = Scalar.select (IntOp.cmpi .eq (D (ix2 u b)) (n (ix2 u b))) (a (ix2 u b) + x (ix3 0 u b)) (f (ix2 u b)) := by
  pointwise! [k1_pay6, k1_pay4]

/-- The first anti-diagonal at an entry. -/
theorem pay1_at (u : Fin 65) (b : Fin 8) :
    k1_pay1 (F := Ideal) (iota Kind.tc S65x8 32 [0] iota_S65x8_d0_w32) 0#32 (ix2 u b)
      = Scalar.select (IntOp.cmpi .eq (BitVec.ofNat 32 u) 0#32) (0 : EReal) ⊥ := by
  pointwise! [k1_pay1]

/-- The carried counter is the trip's number. -/
theorem counter_at (k : ℕ) (u : Fin 65) (b : Fin 8) : (carried D P Q k).2.2 (ix2 u b) = BitVec.ofNat 32 k := by
  induction k with
  | zero => rfl
  | succ k ih =>
    show (carried D P Q k).2.2 (ix2 u b) + 1#32 = _
    rw [ih]; exact (BitVec.ofNat_add ..).symm

/-- Equal counters compare equal. -/
theorem cmpi_self (w : BitVec 32) : IntOp.cmpi .eq w w = 1#1 := by
  show BitVec.ofBool (w == w) = 1#1
  rw [beq_self_eq_true]; rfl

/-- Two different small counters compare different. -/
theorem cmpi_ne (a b : ℕ) (ha : a < 1000) (hb : b < 1000) (h : a ≠ b) :
    IntOp.cmpi .eq (BitVec.ofNat 32 a) (BitVec.ofNat 32 b) = 0#1 := by
  have hne : BitVec.ofNat 32 a ≠ BitVec.ofNat 32 b := by
    intro e
    have := congrArg BitVec.toNat e
    rw [BitVec.toNat_ofNat, BitVec.toNat_ofNat] at this
    omega
  show BitVec.ofBool (BitVec.ofNat 32 a == BitVec.ofNat 32 b) = 0#1
  rw [beq_eq_false_iff_ne.mpr hne]; rfl

/-- An equality test of two small counters picks a branch. -/
theorem select_eq {α : Type} (a b : ℕ) (ha : a < 1000) (hb : b < 1000) (x y : α) :
    Scalar.select (IntOp.cmpi .eq (BitVec.ofNat 32 a) (BitVec.ofNat 32 b)) x y = if a = b then x else y := by
  by_cases h : a = b
  · subst h
    rw [if_pos rfl, cmpi_self]; rfl
  · rw [if_neg h, cmpi_ne a b ha hb h]; rfl

include hP hQ in
/-- The scores carried before trip `k` are anti-diagonal `k` of the lattice. -/
theorem scores_at (k : ℕ) (hk : k ≤ 191) (u : Fin 65) (b : Fin 8) :
    (carried D P Q k).1 (ix2 u b) = diag (lb b) (ll b) k u := by
  induction k generalizing u with
  | zero =>
    refine (pay1_at u b).trans ?_
    rw [select_eq u 0 (by omega) (by omega), diag]
    by_cases h : u.val = 0
    · rw [if_pos h, if_pos (by omega), h]; rw [alpha]
    · rw [if_neg h, if_neg (by omega)]
  | succ k ih =>
    refine (pay5_at _ _ _ u b).trans ?_
    rw [rowAt_at P k (by omega), rowAt_at Q k (by omega), hP, hQ, ih (by omega), ← diag_succ]
    congr 2
    by_cases h : u.val < 1
    · rw [dif_pos h, if_pos h]
    · rw [dif_neg h, if_neg h, ih (by omega)]

include hP hQ in
/-- What has been caught before trip `k`: the closing score of an entry whose last anti-diagonal has passed. -/
theorem caught_at (e : ℕ) (he : e ≤ 191) (u : Fin 65) (b : Fin 8) (hD : D (ix2 u b) = BitVec.ofNat 32 e) (k : ℕ) (hk : k ≤ 191) :
    (carried D P Q k).2.1 (ix2 u b)
      = if e < k then diag (lb b) (ll b) e u + skew u (fun t => lb b t u) e else ⊥ := by
  induction k with
  | zero => rfl
  | succ k ih =>
    refine (pay6_at D _ _ _ _ u b).trans ?_
    rw [hD, counter_at, select_eq e k (by omega) (by omega), ih (by omega), rowAt_at P k (by omega), hP,
      scores_at D P Q lb ll hP hQ k (by omega)]
    by_cases h : e = k
    · subst h; rw [if_pos rfl, if_pos (by omega)]
    · rw [if_neg h]
      by_cases h' : e < k
      · rw [if_pos h', if_pos (by omega)]
      · rw [if_neg h', if_neg (by omega)]

end Loop

/-- The block written, as minus the sum over batch entries and positions. -/
theorem pay8_at (D : IVec S65x8 32) (z a f : FVec Ideal S65x8 .f32) (n : IVec S65x8 32) (x : FVec Ideal S1x65x8 .f32) :
    k1_pay8 D z a f n x (ix2 0 0) = 0 - ∑ b : Fin 8, ∑ u : Fin 65,
      Scalar.select (IntOp.cmpi .eq (D (ix2 u b)) (n (ix2 u b))) (a (ix2 u b) + x (ix3 0 u b)) (f (ix2 u b)) * z (ix2 u b) := by
  pointwise! [k1_pay8]

/-- The anti-diagonal a batch entry ends on, at an entry. -/
theorem ends_at (x2 x3 : Vec Ideal S8x1 .i32) (u : Fin 65) (b : Fin 8) :
    ends x2 x3 (ix2 u b) = x2 (ix2 b 0) - 1#32 + x3 (ix2 b 0) := by
  unfold ends; pointwise! [k1_pay38, k1_pay10, k1_pay9]

/-- The indicator of the last label position, at an entry. -/
theorem sel_at (x3 : Vec Ideal S8x1 .i32) (u : Fin 65) (b : Fin 8) :
    k1_pay39 (F := Ideal) (k1_pay9 (F := Ideal) x3) (ix2 u b)
      = FloatOps.sitofp (F := Ideal) .f32 (BitVec.setWidth 32 (IntOp.cmpi .eq (BitVec.ofNat 32 u) (x3 (ix2 b 0)))) := by
  pointwise! [k1_pay39, k1_pay9]

/-- The block the region writes: minus the sum over the batch of the full paths' scores. -/
theorem block_at (x0 : Vec Ideal S128x8x1x65 .f32) (x1 : Vec Ideal S128x8x1x64 .f32) (x2 x3 : Vec Ideal S8x1 .i32)
    (T L : Fin 8 → ℕ) (hT : ∀ b, T b < 128) (hL : ∀ b, L b ≤ 64) (hTL : ∀ b, T b + L b ≤ 191)
    (h2 : ∀ b, x2 (ix2 b 0) = BitVec.ofNat 32 (T b + 1)) (h3 : ∀ b, x3 (ix2 b 0) = BitVec.ofNat 32 (L b)) :
    block x0 x1 x2 x3 (ix2 0 0)
      = 0 - ∑ b : Fin 8, (alpha (lbOf x0 b) (llOf x1 b) (T b) (L b) + lbOf x0 b (T b) (L b)) := by
  unfold block
  rw [pay8_at]
  congr 1
  refine Finset.sum_congr rfl fun b _ => ?_
  have hD : ∀ u : Fin 65, ends x2 x3 (ix2 u b) = BitVec.ofNat 32 (T b + L b) := fun u => by
    rw [ends_at, h2, h3, BitVec.ofNat_add, BitVec.ofNat_add, BitVec.add_sub_cancel]
  have key : ∀ u : Fin 65, Scalar.select (IntOp.cmpi .eq (ends x2 x3 (ix2 u b)) ((carried (ends x2 x3) (blT x0) (emT x1) 191).2.2 (ix2 u b)))
      ((carried (ends x2 x3) (blT x0) (emT x1) 191).1 (ix2 u b) + rowAt (blT x0) 191 (ix3 0 u b))
      ((carried (ends x2 x3) (blT x0) (emT x1) 191).2.1 (ix2 u b))
      = diag (lbOf x0 b) (llOf x1 b) (T b + L b) u + skew u (fun t => lbOf x0 b t u) (T b + L b) := fun u => by
    have hP : ∀ d u b, blT x0 (ix3 d u b) = skew u (fun t => lbOf x0 b t u) d := fun d u b => blT_at x0 d b u
    have hQ : ∀ d u b, emT x1 (ix3 d u b) = skew (u - 1) (fun t => if u.val = 0 then ⊥ else llOf x1 b t (u - 1)) d :=
      fun d u b => emT_at x1 d b u
    have hb := hTL b
    rw [counter_at, scores_at _ _ _ (lbOf x0) (llOf x1) hP hQ 191 le_rfl,
      caught_at _ _ _ (lbOf x0) (llOf x1) hP hQ (T b + L b) hb u b (hD u) 191 le_rfl, hD,
      select_eq _ 191 (by omega) (by omega), rowAt_at _ 191 le_rfl, hP]
    by_cases h : T b + L b = 191
    · rw [if_pos h, h]
    · rw [if_neg h, if_pos (by omega)]
  have hsel : ∀ u : Fin 65, k1_pay39 (F := Ideal) (k1_pay9 (F := Ideal) x3) (ix2 u b) = if u.val = L b then (1 : EReal) else 0 := fun u => by
    rw [sel_at, h3]
    have hb := hL b
    by_cases h : u.val = L b
    · rw [if_pos h, h, cmpi_self]
      show (((BitVec.setWidth 32 1#1).toInt : ℝ) : EReal) = 1
      rw [show (BitVec.setWidth 32 1#1).toInt = 1 from by decide]; norm_num
    · rw [if_neg h, cmpi_ne u (L b) (by omega) (by omega) h]
      show (((BitVec.setWidth 32 0#1).toInt : ℝ) : EReal) = 0
      rw [show (BitVec.setWidth 32 0#1).toInt = 0 from by decide]; norm_num
  have hb := hL b
  rw [Finset.sum_eq_single (⟨L b, by omega⟩ : Fin 65)]
  · rw [key, hsel, if_pos rfl, mul_one, diag, skew, if_pos (Nat.le_add_left ..), if_pos (Nat.le_add_left ..), Nat.add_sub_cancel]
  · intro u _ hu
    rw [hsel, if_neg (fun e => hu (Fin.ext e)), mul_zero]
  · intro h; exact absurd (Finset.mem_univ _) h

end Cert.Rnnt.K1

end
-- ==== Proof.KerValue.lean ====
/- What the kernel's result array holds after the run, as a function of the arguments as launched. -/
module

public import proofs.«01_k».proof.Proof.K0Value
public import proofs.«01_k».proof.Proof.K1Value

@[expose] public section

set_option maxRecDepth 16384

noncomputable section

namespace Cert.Rnnt.KerValue

open Cert.KernelIdeal Cert.KernelIdeal.Gen
open Idealize.ShloMosaic Idealize.ShloMosaic.TcCoe Idealize.ShloMosaic.Tactic
open Idealize.ShloMosaic.Pipeline
open Cert.Rnnt

variable (m : (ℓ : Loc nD τ sig) → Buf (Elt Ideal) ℓ) (ρ : Dev nD → PrngReg) (c : Dev nD)

/-- The lengths as launched. -/
abbrev actLens : Vec Ideal S8 .i32 := m ((c : Thread nD τ).loc main_arg2)
abbrev labelLens : Vec Ideal S8 .i32 := m ((c : Thread nD τ).loc main_arg3)

/-- The blank table as the second call finds it. -/
theorem v1_0_eq : (V3 m ρ c main_v1_0 : Vec Ideal S128x8x1x65 .f32) = K0.blankTab (K0.acts m c) :=
  ((W3_of m ρ c main_v1_0 (by decide +kernel)).trans (W2_arr m ρ c 2)).trans (K0.arr2 m ρ c)

/-- The label table as the second call finds it. -/
theorem v1_1_eq : (V3 m ρ c main_v1_1 : Vec Ideal S128x8x1x64 .f32) = K0.labelTab (K0.acts m c) (K0.labels m c) :=
  ((W3_of m ρ c main_v1_1 (by decide +kernel)).trans (W2_arr m ρ c 3)).trans (K0.arr3 m ρ c)

/-- The frame counts as the second call finds them: reshaped. -/
theorem v2_eq : (V3 m ρ c main_v2 : Vec Ideal S8x1 .i32) = shapeCast S8x1 (actLens m c) shapeCasts_S8_S8x1 := by
  have e : W2 m ρ c (Proc.devRef .tc main_arg2) = actLens m c := W2_args m ρ c main_arg2 (by simp [argRefs])
  rw [← e]
  show W3 m ρ c (Proc.devRef .tc main_v2) = _
  unfold W3
  after_results
  rfl

/-- The label counts as the second call finds them: reshaped. -/
theorem v3_eq : (V3 m ρ c main_v3 : Vec Ideal S8x1 .i32) = shapeCast S8x1 (labelLens m c) shapeCasts_S8_S8x1 := by
  have e : W2 m ρ c (Proc.devRef .tc main_arg3) = labelLens m c := W2_args m ρ c main_arg3 (by simp [argRefs])
  rw [← e]
  show W3 m ρ c (Proc.devRef .tc main_v3) = _
  unfold W3
  after_results
  rfl

/-- A length column at a batch entry. -/
theorem column_at (l : Vec Ideal S8 .i32) (b : Fin 8) : shapeCast S8x1 l shapeCasts_S8_S8x1 (ix2 b 0) = l (ix1 b) := by
  pointwise!

/-- Every window of the second region is its whole array. -/
theorem idx : ∀ t : Fin cfg1.N, win1_0.index t = ![0, 0, 0, 0] ∧ win1_1.index t = ![0, 0, 0, 0] ∧ win1_2.index t = ![0, 0]
    ∧ win1_3.index t = ![0, 0] ∧ win1_4.index t = ![0, 0] :=
  (by decide +kernel : ∀ t : Fin grid1.N, _)

/-- The second region's result array. -/
theorem arr4 : (dat1 (V3 m ρ) c).arrAt 4 cfg1.N
    = K1.block (K0.blankTab (K0.acts m c)) (K0.labelTab (K0.acts m c) (K0.labels m c))
        (shapeCast S8x1 (actLens m c) shapeCasts_S8_S8x1) (shapeCast S8x1 (labelLens m c) shapeCasts_S8_S8x1) := by
  refine (dat1 (V3 m ρ) c).arrAt_eq_of_covers 4 _ (by decide +kernel) fun t hf y => ?_
  have e0 : iblk1 (V3 m ρ) c 0 t = K0.blankTab (K0.acts m c) := by
    rw [← v1_0_eq m ρ c]; funext x; blk_ext [iblk1, idx t]
  have e1 : iblk1 (V3 m ρ) c 1 t = K0.labelTab (K0.acts m c) (K0.labels m c) := by
    rw [← v1_1_eq m ρ c]; funext x; blk_ext [iblk1, idx t]
  have e2 : iblk1 (V3 m ρ) c 2 t = shapeCast S8x1 (actLens m c) shapeCasts_S8_S8x1 := by
    rw [← v2_eq m ρ c]; funext x; blk_ext [iblk1, idx t]
  have e3 : iblk1 (V3 m ρ) c 3 t = shapeCast S8x1 (labelLens m c) shapeCasts_S8_S8x1 := by
    rw [← v3_eq m ρ c]; funext x; blk_ext [iblk1, idx t]
  have ey : ((cfg1.win 4).blk t).view.emb y = y := by blk_ext [idx t]
  rw [ey]
  blk_simp
  rw [after1_4, outsAt1, K1.out_eq, e0, e1, e2, e3]

/-- The result array at the end of the run. -/
theorem result_eq : (W5 m ρ c (Proc.devRef .tc main_v5) : Vec Ideal S1 .f32)
    = shapeCast S1 (K1.block (K0.blankTab (K0.acts m c)) (K0.labelTab (K0.acts m c) (K0.labels m c))
        (shapeCast S8x1 (actLens m c) shapeCasts_S8_S8x1) (shapeCast S8x1 (labelLens m c) shapeCasts_S8_S8x1)) shapeCasts_S1x1_S1 := by
  have e := (W4_arr m ρ c 4).trans (arr4 m ρ c)
  rw [← e]
  unfold W5
  after_results
  rfl

/-- The kernel's result, with the lengths in the range the problem draws them from. -/
theorem result_at (T L : Fin 8 → ℕ) (hT : ∀ b, T b < 128) (hL : ∀ b, L b ≤ 64)
    (h2 : ∀ b, actLens m c (ix1 b) = BitVec.ofNat 32 (T b + 1)) (h3 : ∀ b, labelLens m c (ix1 b) = BitVec.ofNat 32 (L b)) (i : S1.Idx) :
    (W5 m ρ c (Proc.devRef .tc main_v5) : Vec Ideal S1 .f32) i
      = 0 - ∑ b : Fin 8, (alpha (K1.lbOf (K0.blankTab (K0.acts m c)) b) (K1.llOf (K0.labelTab (K0.acts m c) (K0.labels m c)) b) (T b) (L b)
          + K1.lbOf (K0.blankTab (K0.acts m c)) b (T b) (L b)) := by
  rw [result_eq]
  have e := K1.block_at (K0.blankTab (K0.acts m c)) (K0.labelTab (K0.acts m c) (K0.labels m c))
    (shapeCast S8x1 (actLens m c) shapeCasts_S8_S8x1) (shapeCast S8x1 (labelLens m c) shapeCasts_S8_S8x1) T L hT hL
    (fun b => by have := hT b; have := hL b; omega) (fun b => (column_at _ b).trans (h2 b)) (fun b => (column_at _ b).trans (h3 b))
  rw [← e]
  generalize K1.block (F := Ideal) _ _ _ _ = x
  obtain ⟨k, rfl⟩ : ∃ k : Fin 1, i = ix1 k := ⟨i 0, by funext a; match a with | ⟨0, _⟩ => rfl⟩
  obtain rfl : k = 0 := Subsingleton.elim _ _
  pointwise!

end Cert.Rnnt.KerValue

end
-- ==== Proof.RefLoop.lean ====
/- The reference's scan: the cell it computes at each trip, and the cells it has written at its end. -/
module

public import proofs.«01_k».proof.Proof.RefRun
public import proofs.«01_k».proof.Proof.Lattice
public import Idealize.ShloMosaic.Lib.Pointwise

@[expose] public section

set_option maxRecDepth 16384

noncomputable section

namespace Cert.Rnnt.RefLoop

open Cert.ReferenceIdeal Cert.ReferenceIdeal.Gen Cert.ReferenceIdeal.Value
open Idealize.ShloMosaic Idealize.ShloMosaic.TcCoe Idealize.ShloMosaic.Tactic

/-- The start a trip's counter names. -/
abbrev startOf (n : IVec S_ 32) : Fin 2 → Int :=
  fun k => ((![n, constantI S_ 32 0#32] : Fin 2 → IVec S_ 32) k (Shape.Idx.first h_S_)).toInt

/-- The row of a stream that the counter names. -/
def streamRow (x : FVec Ideal S8320x8 .f32) (n : IVec S_ 32) : FVec Ideal S8 .f32 :=
  shapeCast S8 (Host.dynamicSlice S1x8 x (startOf n) sliceFits_S8320x8_S1x8) shapeCasts_S1x8_S8

/-- The two scores that meet in the new cell. -/
def down (w : FVec Ideal S65x8 .f32) (x : FVec Ideal S8320x8 .f32) (n : IVec S_ 32) : FVec Ideal S8 .f32 :=
  addf (shapeCast S8 (extractStridedSlice S1x8 ![0, 0] w slices_S65x8_S1x8_0_0) shapeCasts_S1x8_S8) (streamRow x n)
def right (w : FVec Ideal S65x8 .f32) (y : FVec Ideal S8320x8 .f32) (n : IVec S_ 32) : FVec Ideal S8 .f32 :=
  addf (shapeCast S8 (extractStridedSlice S1x8 ![64, 0] w slices_S65x8_S1x8_64_0) shapeCasts_S1x8_S8) (streamRow y n)

/-- The new cell as it is printed. -/
def newCell (p q : FVec Ideal S8 .f32) : FVec Ideal S8 .f32 :=
  select (cmpf .une (subf p q) (subf p q)) (addf p q)
    (addf (maximumf p q) (Host.log1p (Host.exp (Host.negf (Host.absf (subf p q))))))

/-- The window after a trip. -/
def newWin (w : FVec Ideal S65x8 .f32) (z : FVec Ideal S8 .f32) : FVec Ideal S65x8 .f32 :=
  concatenate S65x8 0 [⟨S64x8, (extractStridedSlice S64x8 ![1, 0] w slices_S65x8_S64x8_1_0)⟩,
    ⟨S1x8, (broadcastInDim S1x8 ![1] bcast_S8_S1x8_1 z)⟩] concatenates_S64x8_S1x8_S65x8_d0

/-- The cells written after a trip. -/
def newOut (o : FVec Ideal S8320x8 .f32) (z : FVec Ideal S8 .f32) (n : IVec S_ 32) : FVec Ideal S8320x8 .f32 :=
  Host.dynamicUpdateSlice o (broadcastInDim S1x8 ![1] bcast_S8_S1x8_1 z) (startOf n) updateFits_S8320x8_S1x8

/-- A counter's word read back as a number. -/
theorem toInt_small (k : ℕ) (hk : k < 8320) : (BitVec.ofNat 32 k).toInt = (k : Int) := by
  rw [BitVec.toInt_eq_toNat_of_lt] <;> rw [BitVec.toNat_ofNat] <;> omega

/-- A trip's slice starts at the trip's row. -/
theorem start0 (k : Fin 8320) :
    Host.clampedStart S8320x8 S1x8 rfl (startOf fun _ => BitVec.ofNat 32 k) 0 = k.val := by
  refine Host.clampedStart_of_le (s := S8320x8) (t := S1x8) rfl _ (0 : Fin 2) k.val ?_ ?_
  · exact toInt_small k k.isLt
  · show k.val + 1 ≤ 8320; omega

/-- A trip's slice starts at the first column. -/
theorem start1 (k : Fin 8320) : Host.clampedStart S8320x8 S1x8 rfl (startOf fun _ => BitVec.ofNat 32 k) 1 = 0 := by
  refine Host.clampedStart_of_le (s := S8320x8) (t := S1x8) rfl _ (1 : Fin 2) 0 ?_ ?_
  · rfl
  · show 0 + 8 ≤ 8; omega

/-- A stream's row at an entry. -/
theorem streamRow_at (x : FVec Ideal S8320x8 .f32) (k : Fin 8320) (b : Fin 8) :
    streamRow x (fun _ => BitVec.ofNat 32 k) (ix1 b) = x (ix2 k b) := by
  unfold streamRow
  pointwise
  refine congrArg x (congrArg₂ ix2 (Fin.ext (start0 k)) (Fin.ext ?_))
  show Host.clampedStart S8320x8 S1x8 rfl (startOf fun _ => BitVec.ofNat 32 k) 1 + b.val = b.val
  rw [start1, Nat.zero_add]

/-- The score from above at an entry. -/
theorem down_at (w : FVec Ideal S65x8 .f32) (x : FVec Ideal S8320x8 .f32) (k : Fin 8320) (b : Fin 8) :
    down w x (fun _ => BitVec.ofNat 32 k) (ix1 b) = w (ix2 0 b) + x (ix2 k b) := by
  rw [← streamRow_at x k b]; unfold down; generalize streamRow x _ = z; pointwise!

/-- The score from the left at an entry. -/
theorem right_at (w : FVec Ideal S65x8 .f32) (x : FVec Ideal S8320x8 .f32) (k : Fin 8320) (b : Fin 8) :
    right w x (fun _ => BitVec.ofNat 32 k) (ix1 b) = w (ix2 64 b) + x (ix2 k b) := by
  rw [← streamRow_at x k b]; unfold right; generalize streamRow x _ = z; pointwise!

/-- The new cell is the log-sum-exp of the two scores. -/
theorem newCell_at (p q : FVec Ideal S8 .f32) (b : Fin 8) : newCell p q (ix1 b) = lae (p (ix1 b)) (q (ix1 b)) := by
  rw [← lae_eq_abs]; unfold newCell; pointwise
  rw [if_neg (by simp)]; rfl

/-- The window after a trip, at an entry: moved up by one, the new cell last. -/
theorem newWin_at (w : FVec Ideal S65x8 .f32) (z : FVec Ideal S8 .f32) (i : Fin 65) (b : Fin 8) :
    newWin w z (ix2 i b) = if h : i.val < 64 then w (ix2 ⟨i.val + 1, by omega⟩ b) else z (ix1 b) := by
  unfold newWin; pointwise!

/-- The cells written after a trip, at an entry: the new cell in the trip's row. -/
theorem newOut_at (o : FVec Ideal S8320x8 .f32) (z : FVec Ideal S8 .f32) (k j : Fin 8320) (b : Fin 8) :
    newOut o z (fun _ => BitVec.ofNat 32 k) (ix2 j b) = if j.val = k.val then z (ix1 b) else o (ix2 j b) := by
  unfold newOut; pointwise
  have h0 := start0 k
  have h1 := start1 k
  by_cases h : j.val = k.val
  · rw [if_pos h]
    have hlt : j.val < Host.clampedStart S8320x8 S1x8 rfl (startOf fun _ => BitVec.ofNat 32 k) 0 + 1 :=
      h.trans_lt (by rw [h0]; exact Nat.lt_succ_self _)
    refine (dif_pos ⟨⟨h0.trans_le h.ge, hlt⟩, h1.trans_le (Nat.zero_le _)⟩).trans ?_
    refine congrArg (fun v => z (ix1 v)) (Fin.ext ?_)
    show b.val - Host.clampedStart S8320x8 S1x8 rfl (startOf fun _ => BitVec.ofNat 32 k) 1 = b.val
    rw [h1, Nat.sub_zero]
  · rw [if_neg h]
    refine dif_neg fun hc => h ?_
    have a1 : k.val ≤ j.val := h0 ▸ hc.1.1
    have a2 : j.val < k.val + 1 := h0 ▸ hc.1.2
    omega

/-! ## The trips -/

variable (E : Valuation τ sig (Elt Ideal))

/-- The carried buffers before trip `k`. -/
abbrev win (k : ℕ) : FVec Ideal S65x8 .f32 := STEP^[k] E (Proc.devRef .tc main_v29_3)
abbrev outs (k : ℕ) : FVec Ideal S8320x8 .f32 := STEP^[k] E (Proc.devRef .tc main_v29_4)
abbrev ctr (k : ℕ) : IVec S_ 32 := STEP^[k] E (Proc.devRef .tc main_v29_2)
abbrev blanks : FVec Ideal S8320x8 .f32 := E (Proc.devRef .tc main_v29_0)
abbrev emits : FVec Ideal S8320x8 .f32 := E (Proc.devRef .tc main_v29_1)

/-- No trip changes the first stream. -/
theorem blanks_keep (k : ℕ) : STEP^[k] E (Proc.devRef .tc main_v29_0) = blanks E := by
  induction k with
  | zero => rfl
  | succ k ih => rw [Function.iterate_succ_apply', STEP_main_v29_0, ih]

/-- No trip changes the second stream. -/
theorem emits_keep (k : ℕ) : STEP^[k] E (Proc.devRef .tc main_v29_1) = emits E := by
  induction k with
  | zero => rfl
  | succ k ih => rw [Function.iterate_succ_apply', STEP_main_v29_1, ih]

/-- The counter is the trip's number. -/
theorem ctr_eq (h0 : ctr E 0 = fun _ => 0#32) (k : ℕ) : ctr E k = fun _ => BitVec.ofNat 32 k := by
  induction k with
  | zero => exact h0
  | succ k ih =>
    have e : ctr E (k + 1) = addi (ctr E k) (constantI S_ 32 1#32) := by
      show STEP^[k + 1] E _ = _
      rw [Function.iterate_succ_apply', STEP_main_v29_2]; rfl
    rw [e, ih]
    funext i
    exact (BitVec.ofNat_add ..).symm

/-- The cell computed at trip `k`. -/
def cell (k : ℕ) : FVec Ideal S8 .f32 := newCell (down (win E k) (blanks E) (ctr E k)) (right (win E k) (emits E) (ctr E k))

/-- The trip computes the cell. -/
theorem v95_eq (k : ℕ) : res_main_while0b_v95 (STEP^[k] E) = cell E k := by
  rw [cell, ← blanks_keep E k, ← emits_keep E k]; rfl

/-- The window from one trip to the next. -/
theorem win_succ (k : ℕ) : win E (k + 1) = newWin (win E k) (cell E k) := by
  show STEP^[k + 1] E _ = _
  rw [Function.iterate_succ_apply', STEP_main_v29_3, ← v95_eq]; rfl

/-- The written cells from one trip to the next. -/
theorem outs_succ (k : ℕ) : outs E (k + 1) = newOut (outs E k) (cell E k) (ctr E k) := by
  show STEP^[k + 1] E _ = _
  rw [Function.iterate_succ_apply', STEP_main_v29_4, ← v95_eq]; rfl

section Invariant

variable (lb ll : Fin 8 → ℕ → ℕ → EReal)

/-- The lattice's cells, row by row. -/
def cells (b : Fin 8) (n : ℕ) : EReal := alpha (lb b) (ll b) (n / 65) (n % 65)

/-- What the first stream holds: the blank score of the step into a cell from the row above. -/
def intoDown (b : Fin 8) (n : ℕ) : EReal :=
  if n / 65 = 0 then (if n % 65 = 0 then 0 else ⊥) else lb b (n / 65 - 1) (n % 65)

/-- What the second stream holds: the label score of the step into a cell from the left. -/
def intoRight (b : Fin 8) (n : ℕ) : EReal := if n % 65 = 0 then ⊥ else ll b (n / 65) (n % 65 - 1)

/-- The window before trip `n`: the 65 cells before it, zeros before the first. -/
def before (b : Fin 8) (n i : ℕ) : EReal := if n + i < 65 then 0 else cells lb ll b (n + i - 65)

/-- One cell from the window before it. -/
theorem cells_step (b : Fin 8) (n : ℕ) :
    lae (before lb ll b n 0 + intoDown lb b n) (before lb ll b n 64 + intoRight ll b n) = cells lb ll b n := by
  unfold before intoDown intoRight cells
  obtain ⟨t, u, hu, rfl⟩ : ∃ t u, u < 65 ∧ n = t * 65 + u := ⟨n / 65, n % 65, Nat.mod_lt _ (by omega), by omega⟩
  have e1 : (t * 65 + u) / 65 = t := by omega
  have e2 : (t * 65 + u) % 65 = u := by omega
  rw [e1, e2]
  cases t with
  | zero =>
    rw [if_pos rfl, if_pos (show 0 * 65 + u + 0 < 65 by omega)]
    cases u with
    | zero => rw [if_pos rfl, if_pos rfl, EReal.add_bot, alpha, add_zero, lae_zero_bot]
    | succ u =>
      have e3 : (0 * 65 + (u + 1) + 64 - 65) / 65 = 0 := by omega
      have e4 : (0 * 65 + (u + 1) + 64 - 65) % 65 = u := by omega
      rw [if_neg (Nat.succ_ne_zero u), if_neg (Nat.succ_ne_zero u), if_neg (by omega), e3, e4, EReal.add_bot, Nat.add_sub_cancel, alpha]
  | succ t =>
    have e3 : ((t + 1) * 65 + u + 0 - 65) / 65 = t := by omega
    have e4 : ((t + 1) * 65 + u + 0 - 65) % 65 = u := by omega
    rw [if_neg (Nat.succ_ne_zero t), if_neg (by omega), e3, e4, Nat.add_sub_cancel]
    cases u with
    | zero => rw [if_pos rfl, EReal.add_bot, alpha]
    | succ u =>
      have e5 : ((t + 1) * 65 + (u + 1) + 64 - 65) / 65 = t + 1 := by omega
      have e6 : ((t + 1) * 65 + (u + 1) + 64 - 65) % 65 = u := by omega
      rw [if_neg (Nat.succ_ne_zero u), if_neg (by omega), e5, e6, Nat.add_sub_cancel, alpha]

variable (hw : win E 0 = fun _ => (0 : EReal)) (h0 : ctr E 0 = fun _ => 0#32)
  (hb : ∀ (n : Fin 8320) b, blanks E (ix2 n b) = intoDown lb b n)
  (he : ∀ (n : Fin 8320) b, emits E (ix2 n b) = intoRight ll b n)

include h0 hb he in
/-- A trip whose window holds the lattice's last 65 cells computes the lattice's next. -/
theorem cell_of_win (k : ℕ) (hk : k < 8320) (b : Fin 8)
    (h : ∀ i : Fin 65, win E k (ix2 i b) = before lb ll b k i) : cell E k (ix1 b) = cells lb ll b k := by
  unfold cell
  rw [newCell_at, ctr_eq E h0, down_at (win E k) (blanks E) ⟨k, hk⟩ b, right_at (win E k) (emits E) ⟨k, hk⟩ b, hb, he, h, h]
  exact cells_step lb ll b k

include hw h0 hb he in
/-- The window before every trip. -/
theorem win_at (k : ℕ) (hk : k ≤ 8320) (i : Fin 65) (b : Fin 8) : win E k (ix2 i b) = before lb ll b k i := by
  induction k generalizing i with
  | zero =>
    rw [hw, before, if_pos (by omega)]
  | succ k ih =>
    rw [win_succ, newWin_at]
    by_cases h : i.val < 64
    · rw [dif_pos h, ih (by omega), before, before]
      have e : k + (i.val + 1) = k + 1 + i.val := by omega
      rw [show ((⟨i.val + 1, by omega⟩ : Fin 65) : ℕ) = i.val + 1 from rfl, e]
    · rw [dif_neg h, cell_of_win E lb ll h0 hb he k (by omega) b fun i => ih (by omega) i, before, if_neg (by omega)]
      exact congrArg _ (by omega)

include hw h0 hb he in
/-- The cells written before trip `k`. -/
theorem outs_at (k : ℕ) (hk : k ≤ 8320) (j : Fin 8320) (hj : j.val < k) (b : Fin 8) :
    outs E k (ix2 j b) = cells lb ll b j := by
  induction k with
  | zero => omega
  | succ k ih =>
    rw [outs_succ, ctr_eq E h0, newOut_at (outs E k) (cell E k) ⟨k, hk⟩ j b]
    by_cases h : j.val = k
    · rw [if_pos h, h]
      exact cell_of_win E lb ll h0 hb he k (by omega) b fun i => win_at E lb ll hw h0 hb he k (by omega) i b
    · rw [if_neg h]; exact ih (by omega) (by omega)

end Invariant

end Cert.Rnnt.RefLoop

end
-- ==== Proof.Gathers.lean ====
module

public import proofs.«01_k».proof.Proof.Gen.ReferenceIdeal
public import Idealize.ShloMosaic.Lib.Pointwise

/-! The reference's three gathers read at one entry: the gather of the labels' scores along the last
axis, and the two gathers of one entry per batch row. -/

@[expose] public section

set_option maxRecDepth 16384

noncomputable section

namespace Cert.Rnnt.Gathers

open Cert.ReferenceIdeal Cert.ReferenceIdeal.Gen
open Idealize.ShloMosaic Idealize.ShloMosaic.TcCoe Idealize.ShloMosaic.Tactic

/-- The dimension numbers of the gather along the last axis. -/
abbrev labelDims := gather_S8x128x64x1024_S8x128x64x1x1_S8x128x64x1_n_3_012_012_3_4_1111

/-- Entry `(b, t, u, 0)` of the gather along the last axis is the operand's entry `(b, t, u, n)`, where
`n` is the start index at `(b, t, u, 0, 0)`, when that lies below 1024. -/
theorem label_at {α : Type} (x : S8x128x64x1024.Idx → α) (idx : IVec S8x128x64x1x1 32) (b : Fin 8) (t : Fin 128) (u : Fin 64)
    (n : Fin 1024) (h : (idx (ix5 b t u 0 0)).toInt = n.val) :
    Host.gather labelDims x idx (ix4 b t u 0) = x (ix4 b t u n) := by
  unfold Host.gather
  congr 1
  have hs : labelDims.siIdx (ix4 b t u 0) ⟨0, by decide⟩ = ix5 b t u 0 0 := by
    funext a; refine Fin.ext ?_
    fin_cases a <;> rfl
  funext a
  refine Fin.ext ?_
  show labelDims.start _ idx a + labelDims.batchCoord _ a + labelDims.offCoord _ a = _
  fin_cases a
  · exact (Nat.add_zero _).trans (Nat.zero_add b.val)
  · exact (Nat.add_zero _).trans (Nat.zero_add t.val)
  · exact (Nat.add_zero _).trans (Nat.zero_add u.val)
  · show min (idx (labelDims.siIdx (ix4 b t u 0) ⟨0, by decide⟩)).toInt.toNat (1024 - 1) + 0 + 0 = n.val
    rw [hs, h]
    have := n.isLt
    omega

/-- The dimension numbers of the gather of one path sum per batch row. -/
abbrev cellDims := gather_S128x65x8_S8x3_S8_n_012_n_n_012_1_111

/-- Entry `b` of the gather of path sums is the operand's entry `(t, u, c)` named by row `b` of the start
indices. -/
theorem cell_at {α : Type} (x : S128x65x8.Idx → α) (idx : IVec S8x3 32) (b : Fin 8) (t : Fin 128) (u : Fin 65) (c : Fin 8)
    (h0 : (idx (ix2 b 0)).toInt = t.val) (h1 : (idx (ix2 b 1)).toInt = u.val) (h2 : (idx (ix2 b 2)).toInt = c.val) :
    Host.gather cellDims x idx (ix1 b) = x (ix3 t u c) := by
  unfold Host.gather
  congr 1
  have hs : ∀ k : Fin 3, cellDims.siIdx (ix1 b) k = ix2 b k := fun k => by
    funext a; refine Fin.ext ?_
    fin_cases a <;> rfl
  funext a
  refine Fin.ext ?_
  show cellDims.start _ idx a + cellDims.batchCoord _ a + cellDims.offCoord _ a = _
  fin_cases a
  · show min (idx (cellDims.siIdx (ix1 b) (0 : Fin 3))).toInt.toNat (128 - 1) + 0 + 0 = t.val
    rw [hs, h0]
    have := t.isLt
    omega
  · show min (idx (cellDims.siIdx (ix1 b) (1 : Fin 3))).toInt.toNat (65 - 1) + 0 + 0 = u.val
    rw [hs, h1]
    have := u.isLt
    omega
  · show min (idx (cellDims.siIdx (ix1 b) (2 : Fin 3))).toInt.toNat (8 - 1) + 0 + 0 = c.val
    rw [hs, h2]
    have := c.isLt
    omega

/-- The dimension numbers of the gather of one blank score per batch row. -/
abbrev blankDims := gather_S8x128x65_S8x3_S8_n_012_n_n_012_1_111

/-- Entry `b` of the gather of blank scores is the operand's entry `(c, t, u)` named by row `b` of the
start indices. -/
theorem blank_at {α : Type} (x : S8x128x65.Idx → α) (idx : IVec S8x3 32) (b c : Fin 8) (t : Fin 128) (u : Fin 65)
    (h0 : (idx (ix2 b 0)).toInt = c.val) (h1 : (idx (ix2 b 1)).toInt = t.val) (h2 : (idx (ix2 b 2)).toInt = u.val) :
    Host.gather blankDims x idx (ix1 b) = x (ix3 c t u) := by
  unfold Host.gather
  congr 1
  have hs : ∀ k : Fin 3, blankDims.siIdx (ix1 b) k = ix2 b k := fun k => by
    funext a; refine Fin.ext ?_
    fin_cases a <;> rfl
  funext a
  refine Fin.ext ?_
  show blankDims.start _ idx a + blankDims.batchCoord _ a + blankDims.offCoord _ a = _
  fin_cases a
  · show min (idx (blankDims.siIdx (ix1 b) (0 : Fin 3))).toInt.toNat (8 - 1) + 0 + 0 = c.val
    rw [hs, h0]
    have := c.isLt
    omega
  · show min (idx (blankDims.siIdx (ix1 b) (1 : Fin 3))).toInt.toNat (128 - 1) + 0 + 0 = t.val
    rw [hs, h1]
    have := t.isLt
    omega
  · show min (idx (blankDims.siIdx (ix1 b) (2 : Fin 3))).toInt.toNat (65 - 1) + 0 + 0 = u.val
    rw [hs, h2]
    have := u.isLt
    omega

end Cert.Rnnt.Gathers
-- ==== Proof.RefScores.lean ====
/- The reference's scores before its scan: the log-softmax, the blank scores, the labels' scores, and the two
streams the scan reads, each as a function of the arguments, read at an entry. -/
module

public import proofs.«01_k».proof.Proof.Gathers
public import proofs.«01_k».proof.Proof.Lattice
public import Idealize.ShloMosaic.Lib.Pointwise
public import Idealize.ShloMosaic.Lib.ReduceAll
public import Idealize.ShloMosaic.Lib.Affine

@[expose] public section

set_option maxRecDepth 16384

noncomputable section

namespace Cert.Rnnt.RefScores

open Cert.ReferenceIdeal Cert.ReferenceIdeal.Gen
open Idealize.ShloMosaic Idealize.ShloMosaic.TcCoe Idealize.ShloMosaic.Tactic

/-! ## The log-softmax -/

/-- The largest score of each row, as it is printed. -/
def rowMax (a : FVec Ideal S8x128x65x1024 .f32) : FVec Ideal S8x128x65 .f32 :=
  maximumf (broadcastInDim S8x128x65 ![] bcast_S_S8x128x65 (constant (F := Ideal) S_ .f32 0xFF800000#32))
    (Host.reduce FloatOps.maximumf a (constant (F := Ideal) S_ .f32 0xFF800000#32) reducesTo_S8x128x65x1024_S8x128x65_d3 h_S_)

/-- One value per row, repeated along the row. -/
def alongRow (x : FVec Ideal S8x128x65x1 .f32) : FVec Ideal S8x128x65x1024 .f32 :=
  broadcastInDim S8x128x65x1024 ![0, 1, 2, 3] bcast_S8x128x65x1_S8x128x65x1024_0_1_2_3 x
def perRow (x : FVec Ideal S8x128x65 .f32) : FVec Ideal S8x128x65x1 .f32 :=
  broadcastInDim S8x128x65x1 ![0, 1, 2] bcast_S8x128x65_S8x128x65x1_0_1_2 x

/-- The scores less a value per row. -/
def shifted (a : FVec Ideal S8x128x65x1024 .f32) (x : FVec Ideal S8x128x65 .f32) : FVec Ideal S8x128x65x1024 .f32 :=
  subf a (alongRow (perRow x))

/-- The log-softmax of shifted scores. -/
def minusLogSum (d : FVec Ideal S8x128x65x1024 .f32) : FVec Ideal S8x128x65x1024 .f32 :=
  subf d (alongRow (Host.log (perRow
    (Host.reduceAdd (Host.exp d) (constant (F := Ideal) S_ .f32 0x00000000#32) reducesTo_S8x128x65x1024_S8x128x65_d3 h_S_))))

/-- A reduction along the rows is the fold of each row. -/
theorem fold_row {α : Type} (f : α → α → α) [Std.Commutative f] [Std.Associative f] (x : S8x128x65x1024.Idx → α)
    (init : S_.Idx → α) (b : Fin 8) (t : Fin 128) (u : Fin 65) :
    Host.reduce f x init reducesTo_S8x128x65x1024_S8x128x65_d3 h_S_ (ix3 b t u)
      = Finset.univ.fold f (init (Shape.Idx.first h_S_)) fun v : Fin 1024 => x (ix4 b t u v) := by
  pointwise!

/-- The printed minus infinity. -/
theorem negInf : Ideal.ofBits .f32 0xFF800000#32 = ⊥ := rfl

/-- Folds by the same operation from the same start agree. -/
theorem fold_same (f g : EReal → EReal → EReal) [Std.Commutative f] [Std.Associative f] [Std.Commutative g] [Std.Associative g]
    (h : f = g) (x y : EReal) (hx : x = y) (a : Fin 1024 → EReal) : Finset.univ.fold f x a = Finset.univ.fold g y a := by
  subst h hx; rfl

/-- The fold of a row by the printed maximum is its fold by `max` from `⊥`. -/
theorem rowFold_at (a : FVec Ideal S8x128x65x1024 .f32) (b : Fin 8) (t : Fin 128) (u : Fin 65) :
    Host.reduce FloatOps.maximumf a (constant (F := Ideal) S_ .f32 0xFF800000#32) reducesTo_S8x128x65x1024_S8x128x65_d3 h_S_
      (ix3 b t u) = Finset.univ.fold max ⊥ fun v : Fin 1024 => a (ix4 b t u v) :=
  (fold_row (FloatOps.maximumf (F := Ideal) (φ := .f32)) a _ b t u).trans (fold_same _ _ rfl _ _ negInf _)

/-- The printed maximum with minus infinity. -/
theorem maxNegInf_at (z : FVec Ideal S8x128x65 .f32) (b : Fin 8) (t : Fin 128) (u : Fin 65) :
    maximumf (broadcastInDim S8x128x65 ![] bcast_S_S8x128x65 (constant (F := Ideal) S_ .f32 0xFF800000#32)) z (ix3 b t u)
      = max ⊥ (z (ix3 b t u)) := by
  pointwise
  rw [negInf]

/-- A row's largest score. -/
theorem rowMax_at (a : FVec Ideal S8x128x65x1024 .f32) (b : Fin 8) (t : Fin 128) (u : Fin 65) :
    rowMax a (ix3 b t u) = max ⊥ (Finset.univ.fold max ⊥ fun v : Fin 1024 => a (ix4 b t u v)) :=
  (maxNegInf_at _ b t u).trans (congrArg (max ⊥) (rowFold_at a b t u))

/-- Shifted scores at an entry. -/
theorem shifted_at (a : FVec Ideal S8x128x65x1024 .f32) (x : FVec Ideal S8x128x65 .f32) (b : Fin 8) (t : Fin 128) (u : Fin 65)
    (v : Fin 1024) : shifted a x (ix4 b t u v) = a (ix4 b t u v) - x (ix3 b t u) := by
  unfold shifted alongRow perRow; pointwise!

/-- The log-softmax of shifted scores at an entry. -/
theorem minusLogSum_at (d : FVec Ideal S8x128x65x1024 .f32) (b : Fin 8) (t : Fin 128) (u : Fin 65) (v : Fin 1024) :
    minusLogSum d (ix4 b t u v) = d (ix4 b t u v) - Ideal.log (∑ w : Fin 1024, Ideal.exp (d (ix4 b t u w))) := by
  unfold minusLogSum alongRow perRow; pointwise!

/-- The reference's log-softmax. -/
def logSoftmax (a : FVec Ideal S8x128x65x1024 .f32) : FVec Ideal S8x128x65x1024 .f32 := minusLogSum (shifted a (rowMax a))

/-- No score of a row exceeds the row's maximum. -/
theorem le_rowMax (f : Fin 1024 → EReal) (w : Fin 1024) : f w ≤ max ⊥ (Finset.univ.fold max ⊥ f) :=
  le_trans ((Finset.le_fold_max _).mpr (Or.inr ⟨w, Finset.mem_univ w, le_rfl⟩)) (le_max_right _ _)

/-- A row whose maximum is `⊤` holds a score `⊤`. -/
theorem top_of_rowMax (f : Fin 1024 → EReal) (h : max ⊥ (Finset.univ.fold max ⊥ f) = ⊤) : ∃ w, f w = ⊤ := by
  rw [max_eq_right bot_le] at h
  rcases (Finset.le_fold_max _).mp h.ge with h | ⟨w, -, h⟩
  · exact absurd h (by simp)
  · exact ⟨w, top_le_iff.mp h⟩

/-- An entry of the log-softmax, with any constant subtracted in place of the row's maximum. -/
theorem logSoftmax_at (a : FVec Ideal S8x128x65x1024 .f32) (b : Fin 8) (t : Fin 128) (u : Fin 65) (v : Fin 1024) (r : ℝ) :
    logSoftmax a (ix4 b t u v)
      = a (ix4 b t u v) - ((r : EReal) + Ideal.log (∑ w : Fin 1024, Ideal.exp (a (ix4 b t u w) - r))) := by
  unfold logSoftmax
  rw [minusLogSum_at]
  simp only [shifted_at, rowMax_at]
  exact (logsoftmax_eq (fun v => a (ix4 b t u v)) _ (le_rowMax _) (top_of_rowMax _) r v).symm

/-- Whether a label position lies inside the row's label length, repeated over the time. -/
def inLabels (n : IVec S8 32) : IVec S8x1x64 1 :=
  broadcastInDim S8x1x64 ![0, 2] bcast_S8x64_S8x1x64_0_2
    (cmpi .slt (broadcastInDim S8x64 ![0, 1] bcast_S1x64_S8x64_0_1 (broadcastInDim S1x64 ![1] bcast_S64_S1x64_1 (iotaInDim S64 32 0)))
      (broadcastInDim S8x64 ![0, 1] bcast_S8x1_S8x64_0_1 (broadcastInDim S8x1 ![0] bcast_S8_S8x1_0 n)))

/-- Whether a position lies inside the label length, as a comparison. -/
theorem inLabels_at (n : IVec S8 32) (b : Fin 8) (u : Fin 64) :
    inLabels n (ix3 b 0 u) = IntOp.cmpi .slt (BitVec.ofNat 32 u) (n (ix1 b)) := by
  unfold inLabels; pointwise!

/-- The labels' scores with minus infinity past the label length. -/
def masked (k : IVec S8x1x64 1) (s : FVec Ideal S8x128x64 .f32) : FVec Ideal S8x128x64 .f32 :=
  select (broadcastInDim S8x128x64 ![0, 1, 2] bcast_S8x1x64_S8x128x64_0_1_2 k) s
    (broadcastInDim S8x128x64 ![] bcast_S_S8x128x64 (constant (F := Ideal) S_ .f32 0xFF800000#32))

/-- Inside the label length the mask changes nothing. -/
theorem masked_at (k : IVec S8x1x64 1) (s : FVec Ideal S8x128x64 .f32) (b : Fin 8) (t : Fin 128) (u : Fin 64)
    (h : k (ix3 b 0 u) = 1#1) : masked k s (ix3 b t u) = s (ix3 b t u) := by
  have e : masked k s (ix3 b t u) = Scalar.select (k (ix3 b 0 u)) (s (ix3 b t u)) (Ideal.ofBits .f32 0xFF800000#32) := by
    unfold masked; pointwise!
  rw [e, h]; rfl

/-- A trailing axis of one dropped. -/
def dropLast (s : FVec Ideal S8x128x64x1 .f32) : FVec Ideal S8x128x64 .f32 := shapeCast S8x128x64 s shapeCasts_S8x128x64x1_S8x128x64

/-- The dropped axis at an entry. -/
theorem dropLast_at (s : FVec Ideal S8x128x64x1 .f32) (b : Fin 8) (t : Fin 128) (u : Fin 64) :
    dropLast s (ix3 b t u) = s (ix4 b t u 0) := by
  unfold dropLast; pointwise!

/-! ## The two streams -/

/-- A table laid out as a stream: one row per cell, one column per batch row. -/
def flow (x : FVec Ideal S8x128x65 .f32) : FVec Ideal S8320x8 .f32 :=
  transpose S8320x8 [1, 0] (shapeCast S8x8320 x shapeCasts_S8x128x65_S8x8320) transposes_S8x8320_S8320x8_1_0

/-- A stream at an entry. -/
theorem flow_at (x : FVec Ideal S8x128x65 .f32) (n : Fin 8320) (b : Fin 8) :
    flow x (ix2 n b) = x (ix3 b ⟨n / 65, by omega⟩ ⟨n % 65, by omega⟩) := by
  unfold flow; pointwise!

/-- The table of what comes down into each cell. -/
def downTable (s : FVec Ideal S8x128x65 .f32) : FVec Ideal S8x128x65 .f32 :=
  concatenate S8x128x65 1 [⟨S8x1x65, concatenate S8x1x65 2
      [⟨S8x1x1, broadcastInDim S8x1x1 ![] bcast_S_S8x1x1 (constant (F := Ideal) S_ .f32 0x00000000#32)⟩,
       ⟨S8x1x64, broadcastInDim S8x1x64 ![] bcast_S_S8x1x64 (constant (F := Ideal) S_ .f32 0xFF800000#32)⟩]
      concatenates_S8x1x1_S8x1x64_S8x1x65_d2⟩,
    ⟨S8x127x65, extractStridedSlice S8x127x65 ![0, 0, 0] s slices_S8x128x65_S8x127x65_0_0_0⟩]
    concatenates_S8x1x65_S8x127x65_S8x128x65_d1

/-- The table of what comes from the left into each cell. -/
def rightTable (s : FVec Ideal S8x128x64 .f32) : FVec Ideal S8x128x65 .f32 :=
  concatenate S8x128x65 2 [⟨S8x128x1, broadcastInDim S8x128x1 ![] bcast_S_S8x128x1 (constant (F := Ideal) S_ .f32 0xFF800000#32)⟩,
    ⟨S8x128x64, s⟩] concatenates_S8x128x1_S8x128x64_S8x128x65_d2

/-- What comes down into a cell. -/
theorem downTable_at (s : FVec Ideal S8x128x65 .f32) (b : Fin 8) (t : Fin 128) (u : Fin 65) :
    downTable s (ix3 b t u) = if t.val = 0 then (if u.val = 0 then 0 else ⊥) else s (ix3 b ⟨t - 1, by omega⟩ u) := by
  unfold downTable; pointwise
  simp only [negInf, Nat.lt_one_iff, dite_eq_ite]
  rfl

/-- What comes from the left into a cell. -/
theorem rightTable_at (s : FVec Ideal S8x128x64 .f32) (b : Fin 8) (t : Fin 128) (u : Fin 65) :
    rightTable s (ix3 b t u) = if h : u.val = 0 then ⊥ else s (ix3 b t ⟨u - 1, by omega⟩) := by
  unfold rightTable; pointwise
  simp only [negInf, Nat.lt_one_iff]

/-! ## Blank scores, labels' scores -/

/-- The blank scores. -/
def blankScore (s : FVec Ideal S8x128x65x1024 .f32) : FVec Ideal S8x128x65 .f32 :=
  shapeCast S8x128x65 (extractStridedSlice S8x128x65x1 ![0, 0, 0, 0] s slices_S8x128x65x1024_S8x128x65x1_0_0_0_0)
    shapeCasts_S8x128x65x1_S8x128x65

/-- A blank score is the score of class 0. -/
theorem blankScore_at (s : FVec Ideal S8x128x65x1024 .f32) (b : Fin 8) (t : Fin 128) (u : Fin 65) :
    blankScore s (ix3 b t u) = s (ix4 b t u 0) := by
  unfold blankScore; pointwise!

/-- The scores of the first 64 label positions. -/
def headScore (s : FVec Ideal S8x128x65x1024 .f32) : FVec Ideal S8x128x64x1024 .f32 :=
  extractStridedSlice S8x128x64x1024 ![0, 0, 0, 0] s slices_S8x128x65x1024_S8x128x64x1024_0_0_0_0

/-- A score of the first 64 positions. -/
theorem headScore_at (s : FVec Ideal S8x128x65x1024 .f32) (b : Fin 8) (t : Fin 128) (u : Fin 64) (v : Fin 1024) :
    headScore s (ix4 b t u v) = s (ix4 b t ⟨u, by omega⟩ v) := by
  unfold headScore; pointwise!

/-- The labels, repeated over the time. -/
def labelGrid (l : IVec S8x64 32) : IVec S8x128x64x1 32 :=
  broadcastInDim S8x128x64x1 ![0, 1, 2, 3] bcast_S8x1x64x1_S8x128x64x1_0_1_2_3
    (broadcastInDim S8x1x64x1 ![0, 2] bcast_S8x64_S8x1x64x1_0_2 l)

/-- A repeated label is the label. -/
theorem labelGrid_at (l : IVec S8x64 32) (b : Fin 8) (t : Fin 128) (u : Fin 64) : labelGrid l (ix4 b t u 0) = l (ix2 b u) := by
  unfold labelGrid; pointwise!

/-- The start indices of the labels' gather: a negative label counts from the end. -/
def wrapped (g : IVec S8x128x64x1 32) : IVec S8x128x64x1x1 32 :=
  shapeCast S8x128x64x1x1
    (select (cmpi .slt g (broadcastInDim S8x128x64x1 ![] bcast_S_S8x128x64x1 (constantI S_ 32 0#32)))
      (addi g (broadcastInDim S8x128x64x1 ![] bcast_S_S8x128x64x1 (constantI S_ 32 1024#32))) g)
    shapeCasts_S8x128x64x1_S8x128x64x1x1

/-- A start index at an entry. -/
theorem wrapped_at (g : IVec S8x128x64x1 32) (b : Fin 8) (t : Fin 128) (u : Fin 64) :
    wrapped g (ix5 b t u 0 0)
      = Scalar.select (IntOp.cmpi .slt (g (ix4 b t u 0)) 0#32) (g (ix4 b t u 0) + 1024#32) (g (ix4 b t u 0)) := by
  unfold wrapped; pointwise!

/-- Whether a start index lies within the row. -/
def within (x : IVec S8x128x64x1x1 32) : IVec S8x128x64x1x1 1 :=
  andi (cmpi .sge x (broadcastInDim S8x128x64x1x1 ![] bcast_S_S8x128x64x1x1 (constantI S_ 32 0#32)))
    (cmpi .sle x (broadcastInDim S8x128x64x1x1 ![0, 1, 2, 3, 4] bcast_S1x1x1x1x1_S8x128x64x1x1_0_1_2_3_4
      (broadcastInDim S1x1x1x1x1 ![4] bcast_S1_S1x1x1x1x1_4 (constantI S1 32 1023#32))))

/-- The labels' scores, by the gather of the log-softmax. -/
def taken (s : FVec Ideal S8x128x64x1024 .f32) (x : IVec S8x128x64x1x1 32) : FVec Ideal S8x128x64x1 .f32 :=
  select (Host.reduce IntOp.andi (within x) (constantI S_ 1 1#1) reducesTo_S8x128x64x1x1_S8x128x64x1_d4 h_S_)
    (Host.gather gather_S8x128x64x1024_S8x128x64x1x1_S8x128x64x1_n_3_012_012_3_4_1111 s x)
    (broadcastInDim S8x128x64x1 ![] bcast_S_S8x128x64x1 (constant (F := Ideal) S_ .f32 0x7FC00000#32))

/-- The gathered score of a label that is a class. -/
theorem taken_at (s : FVec Ideal S8x128x64x1024 .f32) (x : IVec S8x128x64x1x1 32) (b : Fin 8) (t : Fin 128) (u : Fin 64)
    (n : Fin 1024) (h : x (ix5 b t u 0 0) = BitVec.ofNat 32 n) : taken s x (ix4 b t u 0) = s (ix4 b t u n) := by
  have hn : (BitVec.ofNat 32 n.val).toInt = (n.val : Int) := by
    rw [BitVec.toInt_eq_toNat_of_lt] <;> rw [BitVec.toNat_ofNat] <;> omega
  have hg := Gathers.label_at s x b t u n (by rw [h, hn])
  unfold taken
  generalize Host.gather _ s x = g at hg ⊢
  rw [← hg]
  pointwise [within]
  have hx : ∀ k : Fin 1, x (ix5 b t u 0 k) = BitVec.ofNat 32 n := fun k => by
    rw [show k = 0 from Subsingleton.elim _ _, h]
  simp only [hx]
  rw [show IntOp.andi (IntOp.cmpi .sge (BitVec.ofNat 32 n.val) 0#32) (IntOp.cmpi .sle (BitVec.ofNat 32 n.val) 1023#32) = 1#1 from ?_]
  · rfl
  · rw [(IntOp.cmpi_sge).mpr (by rw [hn]; simp), (IntOp.cmpi_sle).mpr (by rw [hn]; simp; omega)]; rfl

end Cert.Rnnt.RefScores

end
-- ==== Proof.RefEntry.lean ====
/- What the reference's buffers hold where its scan begins, as functions of the arguments. -/
module

public import proofs.«01_k».proof.Proof.RefRun
public import proofs.«01_k».proof.Proof.RefScores

@[expose] public section

set_option maxRecDepth 16384

noncomputable section

namespace Cert.Rnnt.RefEntry

open Cert.ReferenceIdeal Cert.ReferenceIdeal.Gen Cert.ReferenceIdeal.Value
open Idealize.ShloMosaic Idealize.ShloMosaic.TcCoe Idealize.ShloMosaic.Tactic
open Idealize.ShloMosaic.StableHlo
open RefScores

/-! ## Each stretch of operations, over any contents -/

section
variable (V : Valuation τ sig (Elt Ideal))

/-- The first stretch computes the log-softmax. -/
theorem softmax_after : after hostOps0 V (Proc.devRef .tc main_v0) = logSoftmax (V (Proc.devRef .tc main_arg0)) := by
  after_results; simp only [TRef.ofBuf_toBuf]; rfl

/-- The second stretch computes the blank scores. -/
theorem blank_after : after hostOps0_1 V (Proc.devRef .tc main_v2) = blankScore (V (Proc.devRef .tc main_v0)) := by
  after_results; rfl

/-- The second stretch repeats the labels over the time. -/
theorem grid_after : after hostOps0_1 V (Proc.devRef .tc main_v4) = labelGrid (V (Proc.devRef .tc main_arg1)) := by
  after_results; rfl

/-- The second stretch takes the scores of the first 64 positions. -/
theorem head_after : after hostOps0_1 V (Proc.devRef .tc main_v5) = headScore (V (Proc.devRef .tc main_v0)) := by
  after_results; rfl

/-- The third stretch's first operations compute the gather's start indices. -/
theorem start_after : after (hostOps0_2.take 8) V (Proc.devRef .tc main_call1_v5) = wrapped (V (Proc.devRef .tc main_v4)) := by
  dsimp only [hostOps0_2, List.take_succ_cons, List.take_zero]
  after_results; simp only [TRef.ofBuf_toBuf]; rfl

/-- The third stretch's first operations leave the scores alone. -/
theorem startHead_after : after (hostOps0_2.take 8) V (Proc.devRef .tc main_v5) = V (Proc.devRef .tc main_v5) := by
  dsimp only [hostOps0_2, List.take_succ_cons, List.take_zero]
  after_results

/-- The third stretch's other operations gather the labels' scores. -/
theorem takenTail_after : after (hostOps0_2.drop 8) V (Proc.devRef .tc main_v6)
    = taken (V (Proc.devRef .tc main_v5)) (V (Proc.devRef .tc main_call1_v5)) := by
  unfold hostOps0_2; simp only [List.drop]
  after_results; simp only [TRef.ofBuf_toBuf]; dsimp only [TRef.ofBuf, TRef.toBuf, taken, within]; congr 1

/-- The third stretch gathers the labels' scores. -/
theorem taken_after : after hostOps0_2 V (Proc.devRef .tc main_v6)
    = taken (V (Proc.devRef .tc main_v5)) (wrapped (V (Proc.devRef .tc main_v4))) := by
  rw [← start_after, ← startHead_after V, ← takenTail_after]
  rfl

/-- The fourth stretch drops the trailing axis. -/
theorem drop_after : after hostOps0_3 V (Proc.devRef .tc main_v7) = dropLast (V (Proc.devRef .tc main_v6)) := by
  after_results; rfl

/-- The fourth stretch computes which positions lie inside the label length. -/
theorem inLabels_after : after hostOps0_3 V (Proc.devRef .tc main_v14) = inLabels (V (Proc.devRef .tc main_arg3)) := by
  after_results; rfl

/-- The fourth stretch leaves the printed minus infinity. -/
theorem inf_after : after hostOps0_3 V (Proc.devRef .tc main_cst) = constant (F := Ideal) S_ .f32 0xFF800000#32 := by
  after_results

/-- The fifth stretch masks the positions past the label length. -/
theorem masked_after (h : V (Proc.devRef .tc main_cst) = constant (F := Ideal) S_ .f32 0xFF800000#32) :
    after hostOps0_4 V (Proc.devRef .tc main_v15) = masked (V (Proc.devRef .tc main_v14)) (V (Proc.devRef .tc main_v7)) := by
  after_results; rw [h]; rfl

/-- The last stretch lays out the first stream. -/
theorem down_after : after hostOps0_5 V (Proc.devRef .tc main_v29_0) = flow (downTable (V (Proc.devRef .tc main_v2))) := by
  after_results; rfl

/-- The last stretch lays out the second stream. -/
theorem right_after : after hostOps0_5 V (Proc.devRef .tc main_v29_1) = flow (rightTable (V (Proc.devRef .tc main_v15))) := by
  after_results; rfl

/-- The last stretch starts the window at zeros. -/
theorem window_after : after hostOps0_5 V (Proc.devRef .tc main_v29_3) = fun _ => (0 : EReal) := by
  after_results
  exact funext fun i => Ideal.ofBits_zero_f32

end

/-! ## The contents the scan starts from -/

variable (m : (ℓ : Loc nD τ sig) → Buf (Elt Ideal) ℓ) (c : Dev nD)

/-- The scores, labels, time lengths and label lengths as launched. -/
abbrev acts : FVec Ideal S8x128x65x1024 .f32 := m ((c.tc : Thread nD τ).loc main_arg0)
abbrev labels : IVec S8x64 32 := m ((c.tc : Thread nD τ).loc main_arg1)
abbrev actLens : IVec S8 32 := m ((c.tc : Thread nD τ).loc main_arg2)
abbrev labelLens : IVec S8 32 := m ((c.tc : Thread nD τ).loc main_arg3)

/-- The blank scores. -/
def blanks (a : FVec Ideal S8x128x65x1024 .f32) : FVec Ideal S8x128x65 .f32 := blankScore (logSoftmax a)

/-- The labels' scores, minus infinity past the label lengths. -/
def emits (a : FVec Ideal S8x128x65x1024 .f32) (l : IVec S8x64 32) (n : IVec S8 32) : FVec Ideal S8x128x64 .f32 :=
  masked (inLabels n) (dropLast (taken (headScore (logSoftmax a)) (wrapped (labelGrid l))))

/-- The contents after each stretch before the scan. -/
abbrev A0 : Valuation τ sig (Elt Ideal) := after hostOps0 fun b => m (c, b)
abbrev A1 : Valuation τ sig (Elt Ideal) := after hostOps0_1 (A0 m c)
abbrev A2 : Valuation τ sig (Elt Ideal) := after hostOps0_2 (A1 m c)
abbrev A3 : Valuation τ sig (Elt Ideal) := after hostOps0_3 (A2 m c)
abbrev A4 : Valuation τ sig (Elt Ideal) := after hostOps0_4 (A3 m c)

/-- The contents where the scan begins are those after the last stretch. -/
theorem entry_eq : entryContents preI m c = after hostOps0_5 (A4 m c) := by
  simp only [entryContents, afterL_cons, afterL_nil]

/-- The log-softmax after the first stretch. -/
theorem A0_softmax : A0 m c (Proc.devRef .tc main_v0) = logSoftmax (acts m c) := softmax_after _

/-- The labels after the first stretch. -/
theorem A0_labels : A0 m c (Proc.devRef .tc main_arg1) = labels m c :=
  after_of_writes_sub hostOps0 _ hostOps0_writes (by decide +kernel)

/-- The blank scores after the second stretch. -/
theorem A1_blank : A1 m c (Proc.devRef .tc main_v2) = blanks (acts m c) :=
  (blank_after (A0 m c)).trans (by rw [A0_softmax]; rfl)

/-- The gathered scores after the third stretch. -/
theorem A2_taken : A2 m c (Proc.devRef .tc main_v6)
    = taken (headScore (logSoftmax (acts m c))) (wrapped (labelGrid (labels m c))) :=
  (taken_after (A1 m c)).trans (by
    rw [show A1 m c (Proc.devRef .tc main_v5) = _ from head_after (A0 m c), show A1 m c (Proc.devRef .tc main_v4) = _ from grid_after (A0 m c),
      A0_softmax, A0_labels])

/-- The label lengths after the third stretch. -/
theorem A2_lens : A2 m c (Proc.devRef .tc main_arg3) = labelLens m c :=
  (after_of_writes_sub hostOps0_2 _ hostOps0_2_writes (by decide +kernel)).trans
    ((after_of_writes_sub hostOps0_1 _ hostOps0_1_writes (by decide +kernel)).trans
      (after_of_writes_sub hostOps0 _ hostOps0_writes (by decide +kernel)))

/-- The labels' scores after the fifth stretch. -/
theorem A4_emits : A4 m c (Proc.devRef .tc main_v15) = emits (acts m c) (labels m c) (labelLens m c) :=
  (masked_after (A3 m c) (inf_after (A2 m c))).trans (by
    rw [show A3 m c (Proc.devRef .tc main_v14) = _ from inLabels_after (A2 m c), show A3 m c (Proc.devRef .tc main_v7) = _ from drop_after (A2 m c),
      A2_taken, A2_lens]; rfl)

/-- The blank scores after the fifth stretch. -/
theorem A4_blank : A4 m c (Proc.devRef .tc main_v2) = blanks (acts m c) :=
  (after_of_writes_sub hostOps0_4 _ hostOps0_4_writes (by decide +kernel)).trans
    ((after_of_writes_sub hostOps0_3 _ hostOps0_3_writes (by decide +kernel)).trans
      ((after_of_writes_sub hostOps0_2 _ hostOps0_2_writes (by decide +kernel)).trans (A1_blank m c)))

/-- The first stream where the scan begins. -/
theorem entry_down : entryContents preI m c (Proc.devRef .tc main_v29_0) = flow (downTable (blanks (acts m c))) := by
  rw [entry_eq, down_after, A4_blank]

/-- The second stream where the scan begins. -/
theorem entry_right : entryContents preI m c (Proc.devRef .tc main_v29_1)
    = flow (rightTable (emits (acts m c) (labels m c) (labelLens m c))) := by
  rw [entry_eq, right_after, A4_emits]

/-- The window where the scan begins. -/
theorem entry_window : entryContents preI m c (Proc.devRef .tc main_v29_3) = fun _ => (0 : EReal) := by
  rw [entry_eq, window_after]

/-- The blank scores where the scan begins. -/
theorem entry_blank : entryContents preI m c (Proc.devRef .tc main_v2) = blanks (acts m c) := by
  rw [entry_eq]
  exact (after_of_writes_sub hostOps0_5 _ hostOps0_5_writes (by decide +kernel)).trans (A4_blank m c)

end Cert.Rnnt.RefEntry

end
-- ==== Proof.RefTotal.lean ====
/- The reference's last steps: the two entries gathered per batch row, and the total of the costs. -/
module

public import proofs.«01_k».proof.Proof.Gathers
public import Idealize.ShloMosaic.Lib.Pointwise
public import Idealize.ShloMosaic.Lib.Affine

@[expose] public section

set_option maxRecDepth 16384

noncomputable section

namespace Cert.Rnnt.RefTotal

open Cert.ReferenceIdeal Cert.ReferenceIdeal.Gen
open Idealize.ShloMosaic Idealize.ShloMosaic.TcCoe Idealize.ShloMosaic.Tactic

/-- One word for every batch row. -/
def every (k : BitVec 32) : IVec S8 32 := broadcastInDim S8 ![] bcast_S_S8 (constantI S_ 32 k)

/-- An index that counts from the end, of an axis of size `k`, when it is negative. -/
def wrapBy (k : BitVec 32) (x : IVec S8 32) : IVec S8 32 :=
  select (cmpi .slt x (every 0#32)) (addi x (every k)) x

/-- Three indices per batch row. -/
def triple (x y z : IVec S8 32) : IVec S8x3 32 :=
  concatenate S8x3 1 [⟨S8x1, broadcastInDim S8x1 ![0] bcast_S8_S8x1_0 x⟩, ⟨S8x1, broadcastInDim S8x1 ![0] bcast_S8_S8x1_0 y⟩,
    ⟨S8x1, broadcastInDim S8x1 ![0] bcast_S8_S8x1_0 z⟩] concatenates_S8x1_S8x1_S8x1_S8x3_d1

/-- The batch rows' numbers. -/
def rows : IVec S8 32 := iotaInDim S8 32 0

/-- The last time of each batch row. -/
def lastTime (x : IVec S8 32) : IVec S8 32 := subi x (every 1#32)

/-- The path sum at the end of each batch row. -/
def endCell (o : FVec Ideal S8320x8 .f32) (x y : IVec S8 32) : FVec Ideal S8 .f32 :=
  Host.gather gather_S128x65x8_S8x3_S8_n_012_n_n_012_1_111 (shapeCast S128x65x8 o shapeCasts_S8320x8_S128x65x8)
    (triple (wrapBy 128#32 (lastTime x)) (wrapBy 65#32 y) (wrapBy 8#32 rows))

/-- The blank score at the end of each batch row. -/
def endBlank (s : FVec Ideal S8x128x65 .f32) (x y : IVec S8 32) : FVec Ideal S8 .f32 :=
  Host.gather gather_S8x128x65_S8x3_S8_n_012_n_n_012_1_111 s
    (triple (wrapBy 8#32 rows) (wrapBy 128#32 (lastTime x)) (wrapBy 65#32 y))

/-- The sum of the costs. -/
def total (p q : FVec Ideal S8 .f32) : FVec Ideal S1 .f32 :=
  shapeCast S1 (Host.reduceAdd (Host.negf (addf p q)) (constant (F := Ideal) S_ .f32 0x00000000#32) reducesTo_S8_S_d0 h_S_)
    shapeCasts_S_S1

/-- The sum of the costs as a sum over the batch. -/
theorem total_at (p q : FVec Ideal S8 .f32) (i : S1.Idx) : total p q i = ∑ b : Fin 8, -(p (ix1 b) + q (ix1 b)) := by
  obtain rfl : i = ix1 0 := (eq_ix1 i).trans (congrArg ix1 (Subsingleton.elim (α := Fin 1) _ _))
  unfold total; pointwise!

/-- A batch row's three indices. -/
theorem triple_at (x y z : IVec S8 32) (b : Fin 8) :
    triple x y z (ix2 b 0) = x (ix1 b) ∧ triple x y z (ix2 b 1) = y (ix1 b) ∧ triple x y z (ix2 b 2) = z (ix1 b) := by
  unfold triple
  refine ⟨?_, ?_, ?_⟩ <;> pointwise!

/-- A small word read back as a number. -/
theorem small (n : ℕ) (h : n < 1000) : (BitVec.ofNat 32 n).toInt = (n : Int) := by
  rw [BitVec.toInt_eq_toNat_of_lt] <;> rw [BitVec.toNat_ofNat] <;> omega

/-- An index that is not negative is unchanged. -/
theorem wrapBy_at (k : BitVec 32) (x : IVec S8 32) (b : Fin 8) (n : ℕ) (h : n < 1000) (hx : x (ix1 b) = BitVec.ofNat 32 n) :
    wrapBy k x (ix1 b) = BitVec.ofNat 32 n := by
  have e : wrapBy k x (ix1 b) = Scalar.select (IntOp.cmpi .slt (x (ix1 b)) 0#32) (x (ix1 b) + k) (x (ix1 b)) := by
    unfold wrapBy every; pointwise!
  have hc : IntOp.cmpi .slt (BitVec.ofNat 32 n) 0#32 ≠ 1#1 := fun hc => by
    have := IntOp.cmpi_slt.mp hc
    rw [small n h] at this
    simp at this
    omega
  rw [e, hx]
  exact if_neg hc

/-- A batch row's number. -/
theorem rows_at (b : Fin 8) : rows (ix1 b) = BitVec.ofNat 32 b := by unfold rows; pointwise!

/-- The last time is the frame count less one. -/
theorem lastTime_at (x : IVec S8 32) (b : Fin 8) (n : ℕ) (hx : x (ix1 b) = BitVec.ofNat 32 (n + 1)) :
    lastTime x (ix1 b) = BitVec.ofNat 32 n := by
  have e : lastTime x (ix1 b) = x (ix1 b) - 1#32 := by unfold lastTime every; pointwise!
  rw [e, hx, BitVec.ofNat_add]
  exact BitVec.add_sub_cancel _ _

variable (x y : IVec S8 32) (b : Fin 8) (T L : ℕ) (hT : T < 128) (hL : L < 65)
  (hx : x (ix1 b) = BitVec.ofNat 32 (T + 1)) (hy : y (ix1 b) = BitVec.ofNat 32 L)

include hx hy hT hL

/-- The path sum gathered for a row is the one the scan wrote at trip `65 T + L`. -/
theorem endCell_at (o : FVec Ideal S8320x8 .f32) : endCell o x y (ix1 b) = o (ix2 ⟨T * 65 + L, by omega⟩ b) := by
  unfold endCell
  obtain ⟨h0, h1, h2⟩ := triple_at (wrapBy 128#32 (lastTime x)) (wrapBy 65#32 y) (wrapBy 8#32 rows) b
  rw [wrapBy_at _ _ b T (by omega) (lastTime_at x b T hx)] at h0
  rw [wrapBy_at _ _ b L (by omega) hy] at h1
  rw [wrapBy_at _ _ b b (by omega) (rows_at b)] at h2
  refine (Gathers.cell_at _ _ b ⟨T, hT⟩ ⟨L, hL⟩ b (by rw [h0, small T (by omega)]) (by rw [h1, small L (by omega)])
    (by rw [h2, small b (by omega)])).trans ?_
  pointwise!

/-- The blank score gathered for a row is the one at its last time and label position. -/
theorem endBlank_at (s : FVec Ideal S8x128x65 .f32) : endBlank s x y (ix1 b) = s (ix3 b ⟨T, hT⟩ ⟨L, hL⟩) := by
  unfold endBlank
  obtain ⟨h0, h1, h2⟩ := triple_at (wrapBy 8#32 rows) (wrapBy 128#32 (lastTime x)) (wrapBy 65#32 y) b
  rw [wrapBy_at _ _ b b (by omega) (rows_at b)] at h0
  rw [wrapBy_at _ _ b T (by omega) (lastTime_at x b T hx)] at h1
  rw [wrapBy_at _ _ b L (by omega) hy] at h2
  exact Gathers.blank_at _ _ b b ⟨T, hT⟩ ⟨L, hL⟩ (by rw [h0, small b (by omega)]) (by rw [h1, small T (by omega)])
    (by rw [h2, small L (by omega)])

end Cert.Rnnt.RefTotal

end
-- ==== Proof.RefResult.lean ====
/- The reference's result, as a function of the arguments: the lattice's end scores, negated and summed. -/
module

public import proofs.«01_k».proof.Proof.RefLoop
public import proofs.«01_k».proof.Proof.RefEntry
public import proofs.«01_k».proof.Proof.RefTotal

@[expose] public section

set_option maxRecDepth 16384

noncomputable section

namespace Cert.Rnnt.RefResult

open Cert.ReferenceIdeal Cert.ReferenceIdeal.Gen Cert.ReferenceIdeal.Value
open Idealize.ShloMosaic Idealize.ShloMosaic.TcCoe Idealize.ShloMosaic.Tactic
open Idealize.ShloMosaic.StableHlo
open RefScores RefEntry RefRun

/-- A table of blank scores as a function of numbers. -/
def lbOf (s : FVec Ideal S8x128x65 .f32) (b : Fin 8) (t u : ℕ) : EReal :=
  if h : t < 128 ∧ u < 65 then s (ix3 b ⟨t, h.1⟩ ⟨u, h.2⟩) else ⊥

/-- A table of labels' scores as a function of numbers. -/
def llOf (s : FVec Ideal S8x128x64 .f32) (b : Fin 8) (t u : ℕ) : EReal :=
  if h : t < 128 ∧ u < 64 then s (ix3 b ⟨t, h.1⟩ ⟨u, h.2⟩) else ⊥

/-- The first stream holds the blank scores of the steps from above. -/
theorem flow_down (s : FVec Ideal S8x128x65 .f32) (n : Fin 8320) (b : Fin 8) :
    flow (downTable s) (ix2 n b) = RefLoop.intoDown (lbOf s) b n := by
  rw [flow_at, downTable_at, RefLoop.intoDown, lbOf, dif_pos ⟨by omega, by omega⟩]

/-- The second stream holds the labels' scores of the steps from the left. -/
theorem flow_right (s : FVec Ideal S8x128x64 .f32) (n : Fin 8320) (b : Fin 8) :
    flow (rightTable s) (ix2 n b) = RefLoop.intoRight (llOf s) b n := by
  rw [flow_at, rightTable_at, RefLoop.intoRight]
  by_cases h : n.val % 65 = 0
  · rw [dif_pos h, if_pos h]
  · rw [dif_neg h, if_neg h, llOf, dif_pos ⟨by omega, by omega⟩]

section
variable (V : Valuation τ sig (Elt Ideal))

/-- The last stretch of operations, over any contents. -/
theorem total_after : after hostOps0_6 V (Proc.devRef .tc main_v77)
    = RefTotal.total (RefTotal.endCell (V (Proc.devRef .tc main_v29_4)) (V (Proc.devRef .tc main_arg2)) (V (Proc.devRef .tc main_arg3)))
        (RefTotal.endBlank (V (Proc.devRef .tc main_v2)) (V (Proc.devRef .tc main_arg2)) (V (Proc.devRef .tc main_arg3))) := by
  after_results_entrywise []

end

variable (m : (ℓ : Loc nD τ sig) → Buf (Elt Ideal) ℓ) (c : Dev nD)

/-- No trip writes the blank scores. -/
theorem trip_blank : TripKeeps main_v2 := by constructor <;> decide +kernel

/-- The blank scores after the loop. -/
theorem exit_blank : exitC m c (Proc.devRef .tc main_v2) = RefEntry.blanks (acts m c) :=
  (exitC_keep m c main_v2 trip_blank).trans (entry_blank m c)

/-- The frame counts after the loop. -/
theorem exit_actLens : exitC m c (Proc.devRef .tc main_arg2) = actLens m c :=
  (exitC_keep m c main_arg2 trip_arg2).trans
    (entry_args m c _ (by decide +kernel) (by decide +kernel) (by decide +kernel) (by decide +kernel) (by decide +kernel) (by decide +kernel))

/-- The label counts after the loop. -/
theorem exit_labelLens : exitC m c (Proc.devRef .tc main_arg3) = labelLens m c :=
  (exitC_keep m c main_arg3 trip_arg3).trans
    (entry_args m c _ (by decide +kernel) (by decide +kernel) (by decide +kernel) (by decide +kernel) (by decide +kernel) (by decide +kernel))

/-- The written cells after the loop. -/
theorem exit_cells : exitC m c (Proc.devRef .tc main_v29_4) = RefLoop.outs (entryContents preI m c) 8320 :=
  (after_of_writes_sub condOps _ condOps_writes (by decide +kernel)).trans (atK_agree m c 8320 main_v29_4 (by decide))

/-- The scores the lattice runs over. -/
abbrev lb : Fin 8 → ℕ → ℕ → EReal := lbOf (RefEntry.blanks (acts m c))
abbrev ll : Fin 8 → ℕ → ℕ → EReal := llOf (RefEntry.emits (acts m c) (labels m c) (labelLens m c))

/-- The sum over the batch of the negated score at the end `(T b, L b)` of each lattice. -/
def cost (lb ll : Fin 8 → ℕ → ℕ → EReal) (T L : Fin 8 → ℕ) : EReal :=
  ∑ b : Fin 8, -(alpha (lb b) (ll b) (T b) (L b) + lb b (T b) (L b))

/-- The scan leaves the lattice's cells. -/
theorem cells_at (j : Fin 8320) (b : Fin 8) :
    RefLoop.outs (entryContents preI m c) 8320 (ix2 j b) = RefLoop.cells (lb m c) (ll m c) b j :=
  RefLoop.outs_at (entryContents preI m c) (lb m c) (ll m c) (entry_window m c) (ctr_entry m c)
    (fun n b => by rw [← flow_down, ← entry_down]) (fun n b => by rw [← flow_right, ← entry_right]) 8320 le_rfl j j.isLt b

/-- The reference's result. -/
theorem result_at (T L : Fin 8 → ℕ) (hT : ∀ b, T b < 128) (hL : ∀ b, L b ≤ 64)
    (h2 : ∀ b, actLens m c (ix1 b) = BitVec.ofNat 32 (T b + 1)) (h3 : ∀ b, labelLens m c (ix1 b) = BitVec.ofNat 32 (L b)) (i : S1.Idx) :
    (finalContents condOps preI bodyI postI 8320 m c (Proc.devRef .tc main_v77) : Vec Ideal S1 .f32) i
      = cost (lb m c) (ll m c) T L := by
  have e : finalContents condOps preI bodyI postI 8320 m c (Proc.devRef .tc main_v77)
      = RefTotal.total (RefTotal.endCell (RefLoop.outs (entryContents preI m c) 8320) (actLens m c) (labelLens m c))
          (RefTotal.endBlank (RefEntry.blanks (acts m c)) (actLens m c) (labelLens m c)) :=
    (total_after (exitC m c)).trans (by rw [exit_cells, exit_blank, exit_actLens, exit_labelLens])
  refine (congrFun e i).trans ((RefTotal.total_at _ _ i).trans (Finset.sum_congr (M := EReal) rfl fun b _ => ?_))
  have hd : (T b * 65 + L b) / 65 = T b := by have := hL b; omega
  have hm : (T b * 65 + L b) % 65 = L b := by have := hL b; omega
  rw [RefTotal.endCell_at _ _ b (T b) (L b) (hT b) (Nat.lt_succ_of_le (hL b)) (h2 b) (h3 b),
    RefTotal.endBlank_at _ _ b (T b) (L b) (hT b) (Nat.lt_succ_of_le (hL b)) (h2 b) (h3 b), cells_at, RefLoop.cells, hd, hm]
  rw [show lb m c b (T b) (L b) = _ from dif_pos ⟨hT b, Nat.lt_succ_of_le (hL b)⟩]

end Cert.Rnnt.RefResult

end
-- ==== Proof.Equation.lean ====
/- The two programs' results agree: their scores agree where the lattice's end reads them, and the negation of
the sum is the sum of the negations. -/
module

public import proofs.«01_k».proof.Proof.KerValue
public import proofs.«01_k».proof.Proof.RefResult
public import proofs.«01_k».proof.Pre_in_range
public import Idealize.ShloMosaic.Lib.ReduceAll

@[expose] public section

set_option maxRecDepth 16384

noncomputable section

namespace Cert.Rnnt.Equation

open Idealize.ShloMosaic Idealize.ShloMosaic.TcCoe Idealize.ShloMosaic.Tactic

/-! ## The scores -/

section Scores

variable (a : FVec Ideal (⟨4, ![8, 128, 65, 1024]⟩ : Shape) .f32) (l : IVec (⟨2, ![8, 64]⟩ : Shape) 32) (n : IVec (⟨1, ![8]⟩ : Shape) 32)

/-- The kernel's log-softmax of one score is the reference's. -/
theorem score_eq (b : Fin 8) (t : Fin 128) (u : Fin 65) (v : Fin 1024) :
    a (ix4 b t u v) - K0.norm (fun w => a (ix4 b t u w)) = RefScores.logSoftmax a (ix4 b t u v) := by
  rw [RefScores.logSoftmax_at a b t u v 4, K0.norm, K0.four_eq]

/-- The blank scores agree. -/
theorem lb_eq (b : Fin 8) (t u : ℕ) :
    K1.lbOf (K0.blankTab a) b t u = RefResult.lbOf (RefEntry.blanks a) b t u := by
  unfold K1.lbOf RefResult.lbOf
  by_cases h : t < 128 ∧ u < 65
  · rw [dif_pos h, dif_pos h, RefEntry.blanks, RefScores.blankScore_at, ← score_eq]; rfl
  · rw [dif_neg h, dif_neg h]

/-- The labels are classes. -/
abbrev Labels : Prop := ∀ (b : Fin 8) (u : Fin 64), ∃ k : Fin 1024, l (ix2 b u) = BitVec.ofNat 32 k

/-- The kernel's score of a label. -/
theorem labelTab_at (hl : Labels l) (b : Fin 8) (t : Fin 128) (u : Fin 64) (k : Fin 1024) (hk : l (ix2 b u) = BitVec.ofNat 32 k) :
    K0.labelTab a l (ix4 t b 0 u) = RefScores.logSoftmax a (ix4 b t ⟨u, by omega⟩ k) := by
  rw [← score_eq, ← K0.pick_eq (fun v => a (ix4 b t ⟨u, by omega⟩ v)) k, ← hk]; rfl

/-- The reference's score of a label inside the label length. -/
theorem emits_at (hl : Labels l) (b : Fin 8) (t : Fin 128) (u : Fin 64) (k : Fin 1024) (hk : l (ix2 b u) = BitVec.ofNat 32 k)
    (L : ℕ) (hL : L ≤ 64) (hn : n (ix1 b) = BitVec.ofNat 32 L) (hu : u.val < L) :
    RefEntry.emits a l n (ix3 b t u) = RefScores.logSoftmax a (ix4 b t ⟨u, by omega⟩ k) := by
  have hc : RefScores.inLabels n (ix3 b 0 u) = 1#1 := by
    rw [RefScores.inLabels_at, hn]
    refine IntOp.cmpi_slt.mpr ?_
    rw [RefTotal.small u (by omega), RefTotal.small L (by omega)]
    exact_mod_cast hu
  have hw : RefScores.wrapped (RefScores.labelGrid l) (ix5 b t u 0 0) = BitVec.ofNat 32 k := by
    rw [RefScores.wrapped_at, RefScores.labelGrid_at, hk]
    refine if_neg fun h => ?_
    have := IntOp.cmpi_slt.mp h
    rw [show (BitVec.ofNat 32 k.val).toInt = (k.val : Int) by
      rw [BitVec.toInt_eq_toNat_of_lt] <;> rw [BitVec.toNat_ofNat] <;> omega] at this
    simp at this
    omega
  rw [RefEntry.emits, RefScores.masked_at _ _ b t u hc, RefScores.dropLast_at, RefScores.taken_at _ _ b t u k hw, RefScores.headScore_at]

/-- The labels' scores agree inside the label length. -/
theorem ll_eq (hl : Labels l) (b : Fin 8) (L : ℕ) (hL : L ≤ 64) (hn : n (ix1 b) = BitVec.ofNat 32 L) (t u : ℕ) (hu : u < L) :
    K1.llOf (K0.labelTab a l) b t u = RefResult.llOf (RefEntry.emits a l n) b t u := by
  unfold K1.llOf RefResult.llOf
  by_cases h : t < 128 ∧ u < 64
  · obtain ⟨k, hk⟩ := hl b ⟨u, h.2⟩
    rw [dif_pos h, dif_pos h, labelTab_at a l hl b ⟨t, h.1⟩ ⟨u, h.2⟩ k hk, emits_at a l n hl b ⟨t, h.1⟩ ⟨u, h.2⟩ k hk L hL hn hu]
  · rw [dif_neg h, dif_neg h]

/-- No log-softmax is `⊤`. -/
theorem logSoftmax_lt (b : Fin 8) (t : Fin 128) (u : Fin 65) (v : Fin 1024) : RefScores.logSoftmax a (ix4 b t u v) < ⊤ := by
  rw [RefScores.logSoftmax_at a b t u v 4]
  exact logsoftmax_lt_top (fun w => a (ix4 b t u w)) 4 v

/-- No blank score is plus infinity. -/
theorem lb_lt (b : Fin 8) (t u : ℕ) : K1.lbOf (K0.blankTab a) b t u < ⊤ := by
  unfold K1.lbOf
  split
  · rename_i h
    exact (score_eq a b ⟨t, h.1⟩ ⟨u, h.2⟩ 0).trans_lt (logSoftmax_lt a b ⟨t, h.1⟩ ⟨u, h.2⟩ 0)
  · exact bot_lt_top

/-- No label's score is plus infinity. -/
theorem ll_lt (hl : Labels l) (b : Fin 8) (t u : ℕ) : K1.llOf (K0.labelTab a l) b t u < ⊤ := by
  unfold K1.llOf
  split
  · rename_i h
    obtain ⟨k, hk⟩ := hl b ⟨u, h.2⟩
    rw [labelTab_at a l hl b ⟨t, h.1⟩ ⟨u, h.2⟩ k hk]
    exact logSoftmax_lt a _ _ _ _
  · exact bot_lt_top

/-- The negation of the kernel's sum is the reference's sum of costs. -/
theorem cost_eq (hl : Labels l) (T L : Fin 8 → ℕ) (hL : ∀ b, L b ≤ 64) (hn : ∀ b, n (ix1 b) = BitVec.ofNat 32 (L b)) :
    0 - ∑ b : Fin 8, (alpha (K1.lbOf (K0.blankTab a) b) (K1.llOf (K0.labelTab a l) b) (T b) (L b) + K1.lbOf (K0.blankTab a) b (T b) (L b))
      = RefResult.cost (RefResult.lbOf (RefEntry.blanks a)) (RefResult.llOf (RefEntry.emits a l n)) T L := by
  rw [zero_sub, neg_sum _ _ fun b => EReal.add_lt_top (alpha_lt_top _ _ (lb_lt a b) (ll_lt a l hl b) _ _).ne (lb_lt a b _ _).ne]
  refine Finset.sum_congr rfl fun b _ => ?_
  rw [lb_eq, alpha_congr _ (RefResult.lbOf (RefEntry.blanks a) b) _ (RefResult.llOf (RefEntry.emits a l n) b) (T b) (L b)
    (fun t u _ _ => lb_eq a b t u) (fun t u _ hu => ll_eq a l n hl b (L b) (hL b) (hn b) t u hu) (T b) (L b) le_rfl le_rfl]

end Scores

/-! ## The precondition -/

section Pre

variable (a : FVec Ideal (⟨4, ![8, 128, 65, 1024]⟩ : Shape) .f32) (l : IVec (⟨2, ![8, 64]⟩ : Shape) 32) (x y : IVec (⟨1, ![8]⟩ : Shape) 32)

/-- The shapes of the precondition's operations fit. -/
instance facts : Cert.Pre_in_range.Facts where
  bcast_S_S8x64 := by decide
  reducesTo_S8x64_S_d0_1 := by decide
  h_S_ := by decide
  bcast_S_S8 := by decide
  reducesTo_S8_S_d0 := by decide

/-- A shape without axes has one index. -/
theorem one_index (i j : (⟨0, ![]⟩ : Shape).Idx) : i = j := funext fun k => k.elim0

instance : Subsingleton Cert.Pre_in_range.S_.Idx := ⟨one_index⟩

/-- A word between two small numbers, both read signed, is a number between them. -/
theorem between (w : BitVec 32) (p q : ℕ) (h1 : (p : Int) ≤ w.toInt) (h2 : w.toInt ≤ (q : Int)) :
    ∃ k : ℕ, p ≤ k ∧ k ≤ q ∧ w = BitVec.ofNat 32 k := by
  refine ⟨w.toInt.toNat, by omega, by omega, ?_⟩
  apply BitVec.eq_of_toInt_eq
  have hw := w.isLt
  have : w.toInt = (w.toNat : Int) := by
    rw [BitVec.toInt_eq_toNat_cond] at h1 ⊢
    split <;> [rfl; (rename_i h; rw [if_neg h] at h1; omega)]
  rw [this, Int.toNat_natCast, BitVec.ofNat_toNat, BitVec.setWidth_eq, this]

/-- What the range precondition says of the three integer arguments. -/
theorem ranges (h : Cert.Pre_in_range.fn (F := Ideal) a l x y = fun _ => 1#1) :
    (∀ b u, IntOp.cmpi .sge (l (ix2 b u)) 1#32 = 1#1 ∧ IntOp.cmpi .slt (l (ix2 b u)) 1024#32 = 1#1)
    ∧ (∀ b, IntOp.cmpi .sge (x (ix1 b)) 64#32 = 1#1 ∧ IntOp.cmpi .sle (x (ix1 b)) 128#32 = 1#1)
    ∧ ∀ b, IntOp.cmpi .sge (y (ix1 b)) 32#32 = 1#1 ∧ IntOp.cmpi .sle (y (ix1 b)) 64#32 = 1#1 := by
  have h := congrFun h ix0
  dsimp only [Cert.Pre_in_range.fn, Cert.Pre_in_range.fn_part1] at h
  obtain ⟨h, hy⟩ := IntOp.andi_eq_one.1 h
  obtain ⟨hl, hx⟩ := IntOp.andi_eq_one.1 h
  refine ⟨fun b u => ?_, fun b => ?_, fun b => ?_⟩
  · exact IntOp.andi_eq_one.1 (Host.reduce_andi_all _ _ _ _ _ hl (ix2 b u))
  · exact IntOp.andi_eq_one.1 (Host.reduce_andi_all _ _ _ _ _ hx (ix1 b))
  · exact IntOp.andi_eq_one.1 (Host.reduce_andi_all _ _ _ _ _ hy (ix1 b))

/-- The labels are classes, and the lengths are numbers in their ranges. -/
theorem numbers (h : Cert.Pre_in_range.fn (F := Ideal) a l x y = fun _ => 1#1) :
    Labels l ∧ (∃ T : Fin 8 → ℕ, (∀ b, T b < 128) ∧ ∀ b, x (ix1 b) = BitVec.ofNat 32 (T b + 1))
      ∧ ∃ L : Fin 8 → ℕ, (∀ b, L b ≤ 64) ∧ ∀ b, y (ix1 b) = BitVec.ofNat 32 (L b) := by
  obtain ⟨hl, hx, hy⟩ := ranges a l x y h
  refine ⟨fun b u => ?_, ?_, ?_⟩
  · have h1 := IntOp.cmpi_sge.mp (hl b u).1
    have h2 := IntOp.cmpi_slt.mp (hl b u).2
    obtain ⟨k, -, hk, e⟩ := between _ 1 1023 h1 (Int.le_of_lt_add_one h2)
    exact ⟨⟨k, by omega⟩, e⟩
  · choose T h1 h2 e using fun b => between _ 64 128 (IntOp.cmpi_sge.mp (hx b).1) (IntOp.cmpi_sle.mp (hx b).2)
    exact ⟨fun b => T b - 1, fun b => by have := h1 b; have := h2 b; show T b - 1 < 128; omega,
      fun b => by rw [e b, show T b - 1 + 1 = T b by have := h1 b; omega]⟩
  · choose L h1 h2 e using fun b => between _ 32 64 (IntOp.cmpi_sge.mp (hy b).1) (IntOp.cmpi_sle.mp (hy b).2)
    exact ⟨L, h2, e⟩

end Pre

/-! ## The results -/

/-- Over arguments in their ranges, the kernel's and the reference's results are equal. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hp : Cert.Pre_in_range.fn (F := Ideal) (K0.acts m c) (K0.labels m c) (KerValue.actLens m c) (KerValue.labelLens m c) = fun _ => 1#1)
    (h0 : RefEntry.acts m' c = K0.acts m c) (h1 : RefEntry.labels m' c = K0.labels m c)
    (h2 : RefEntry.actLens m' c = KerValue.actLens m c) (h3 : RefEntry.labelLens m' c = KerValue.labelLens m c) :
    StableHlo.finalContents Cert.ReferenceIdeal.Value.condOps Cert.ReferenceIdeal.Value.preI Cert.ReferenceIdeal.Value.bodyI
        Cert.ReferenceIdeal.Value.postI 8320 m' c (Proc.devRef .tc Cert.ReferenceIdeal.main_v77)
      = Cert.KernelIdeal.Gen.W5 m ρ c (Proc.devRef .tc Cert.KernelIdeal.main_v5) := by
  obtain ⟨hl, ⟨T, hT, hx⟩, L, hL, hy⟩ := numbers _ _ _ _ hp
  funext i
  refine (RefResult.result_at m' c T L hT hL (fun b => by rw [h2]; exact hx b) (fun b => by rw [h3]; exact hy b) i).trans ?_
  refine Eq.trans ?_ (KerValue.result_at m ρ c T L hT hL hx hy i).symm
  rw [cost_eq (K0.acts m c) (K0.labels m c) (KerValue.labelLens m c) hl T L hL hy, RefResult.lb, RefResult.ll, h0, h1, h3]

end Cert.Rnnt.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KerRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over arguments in their ranges, the kernel and the reference end with equal results, and each with its
arguments unchanged. -/
theorem algebraic : Cert.algebraic_KernelIdeal_ReferenceIdeal_pre_in_range
    (hKernelIdeal := Cert.KernelIdeal.Gen.facts) (hReferenceIdeal := Cert.ReferenceIdeal.Gen.facts)
    (hPre_in_range := Cert.Rnnt.Equation.facts) := fun m ρ m' ρ' hp he =>
  ⟨fun c => Cert.KernelIdeal.Gen.W5 m ρ c (Proc.devRef .tc Cert.KernelIdeal.main_v5),
    (θ_run Cert.KernelIdeal.defs _ _).mono (fun _ h c =>
      ⟨h.1 c _ (Cert.KernelIdeal.Gen.mem_uc Cert.KernelIdeal.main_v5 (by decide)),
        (h.1 c _ (Cert.KernelIdeal.Gen.mem_uc Cert.KernelIdeal.main_arg0 (by decide))).trans (Cert.KernelIdeal.Gen.W5_main_arg0 m ρ c),
        (h.1 c _ (Cert.KernelIdeal.Gen.mem_uc Cert.KernelIdeal.main_arg1 (by decide))).trans (Cert.KernelIdeal.Gen.W5_main_arg1 m ρ c),
        (h.1 c _ (Cert.KernelIdeal.Gen.mem_uc Cert.KernelIdeal.main_arg2 (by decide))).trans (Cert.KernelIdeal.Gen.W5_main_arg2 m ρ c),
        (h.1 c _ (Cert.KernelIdeal.Gen.mem_uc Cert.KernelIdeal.main_arg3 (by decide))).trans (Cert.KernelIdeal.Gen.W5_main_arg3 m ρ c)⟩)
      (Cert.Rnnt.KerRun.run m ρ),
    (θ_run Cert.ReferenceIdeal.defs _ _).mono (fun _ h c =>
      ⟨(h.1 c Cert.ReferenceIdeal.main_v77 rfl).trans
          (Cert.Rnnt.Equation.result_eq m ρ m' c (hp c) (he c).1 (he c).2.1 (he c).2.2.1 (he c).2.2.2),
        (h.1 c Cert.ReferenceIdeal.main_arg0 rfl).trans (Cert.Rnnt.RefRun.final_arg0 m' c),
        (h.1 c Cert.ReferenceIdeal.main_arg1 rfl).trans (Cert.Rnnt.RefRun.final_arg1 m' c),
        (h.1 c Cert.ReferenceIdeal.main_arg2 rfl).trans (Cert.Rnnt.RefRun.final_arg2 m' c),
        (h.1 c Cert.ReferenceIdeal.main_arg3 rfl).trans (Cert.Rnnt.RefRun.final_arg3 m' c)⟩)
      (Cert.Rnnt.RefRun.run m' ρ')⟩

/-- Everything the certificate claims. -/
theorem claim : Cert.Claim := ⟨Cert.Kernel.Gen.facts, Cert.KernelIdeal.Gen.facts, Cert.ReferenceIdeal.Gen.facts,
  Cert.Rnnt.Equation.facts,
  fun m ρ _ => Cert.Kernel.Gen.frame m ρ,
  fun m ρ _ => Cert.KernelIdeal.Gen.frame m ρ,
  fun m ρ _ => Cert.KernelIdeal.Gen.frame m ρ,
  fun m ρ _ => Cert.Rnnt.RefRun.frame m ρ,
  fun m ρ _ => Cert.Rnnt.RefRun.frame m ρ,
  IdealRules.named_const.statement Cert.KernelIdeal.κ "mask" .f32 0xF149F2CA#32 ⊥ rfl,
  algebraic⟩

end Cert.Proof

end
